-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Quant (m : (ℓ : Loc Cert.Quant.nD Cert.Quant.τ Cert.Quant.sig) → Buf (Elt Bits) ℓ) : Prop :=
  True

def Pre_RefQuant (m : (ℓ : Loc Cert.RefQuant.nD Cert.RefQuant.τ Cert.RefQuant.sig) → Buf (Elt Bits) ℓ) : Prop :=
  True

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_RefWholeIdeal (m : (ℓ : Loc Cert.RefWholeIdeal.nD Cert.RefWholeIdeal.τ Cert.RefWholeIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_RefQuant [hRefQuant : Cert.RefQuant.Facts] : Prop :=
  ∀ (m : (ℓ : Loc Cert.RefQuant.nD Cert.RefQuant.τ Cert.RefQuant.sig) → Buf (Elt Bits) ℓ) (g : Dev Cert.RefQuant.nD → PrngReg), Pre_RefQuant m →
    θ_run (Cert.RefQuant.defs (F := Bits)) (onTc (τ := Cert.RefQuant.τ) (Cert.RefQuant.main (F := Bits))) ⟨m, fun _ => 0, g⟩ (fun r => (∀ c : Dev Cert.RefQuant.nD,
      r.2.mem ((c.tc : Thread Cert.RefQuant.nD Cert.RefQuant.τ).loc Cert.RefQuant.main_arg0) = m ((c.tc : Thread Cert.RefQuant.nD Cert.RefQuant.τ).loc Cert.RefQuant.main_arg0)
      ∧ r.2.mem ((c.tc : Thread Cert.RefQuant.nD Cert.RefQuant.τ).loc Cert.RefQuant.main_arg1) = m ((c.tc : Thread Cert.RefQuant.nD Cert.RefQuant.τ).loc Cert.RefQuant.main_arg1))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_RefWholeIdeal [hRefWholeIdeal : Cert.RefWholeIdeal.Facts] : Prop :=
  ∀ (m : (ℓ : Loc Cert.RefWholeIdeal.nD Cert.RefWholeIdeal.τ Cert.RefWholeIdeal.sig) → Buf (Elt Ideal) ℓ) (g : Dev Cert.RefWholeIdeal.nD → PrngReg), Pre_RefWholeIdeal m →
    θ_run (Cert.RefWholeIdeal.defs (F := Ideal)) (onTc (τ := Cert.RefWholeIdeal.τ) (Cert.RefWholeIdeal.main (F := Ideal))) ⟨m, fun _ => 0, g⟩ (fun r => (∀ c : Dev Cert.RefWholeIdeal.nD,
      r.2.mem ((c.tc : Thread Cert.RefWholeIdeal.nD Cert.RefWholeIdeal.τ).loc Cert.RefWholeIdeal.main_arg0) = m ((c.tc : Thread Cert.RefWholeIdeal.nD Cert.RefWholeIdeal.τ).loc Cert.RefWholeIdeal.main_arg0)
      ∧ r.2.mem ((c.tc : Thread Cert.RefWholeIdeal.nD Cert.RefWholeIdeal.τ).loc Cert.RefWholeIdeal.main_arg1) = m ((c.tc : Thread Cert.RefWholeIdeal.nD Cert.RefWholeIdeal.τ).loc Cert.RefWholeIdeal.main_arg1))
      ∧ r.2.sem = fun _ => 0)

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v10) = v0 c
          ∧ r.2.mem ((c.tc : Thread Cert.RefProjIdeal.nD Cert.RefProjIdeal.τ).loc Cert.RefProjIdeal.main_v11) = v1 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def bitexact_Quant_RefQuant [hQuant : Cert.Quant.Facts] [hRefQuant : Cert.RefQuant.Facts] : Prop :=
  ∀ (m : (ℓ : Loc Cert.Quant.nD Cert.Quant.τ Cert.Quant.sig) → Buf (Elt Bits) ℓ) (g : Dev Cert.Quant.nD → PrngReg)
    (m' : (ℓ : Loc Cert.RefQuant.nD Cert.RefQuant.τ Cert.RefQuant.sig) → Buf (Elt Bits) ℓ) (g' : Dev Cert.RefQuant.nD → PrngReg), Pre_Quant m →
    (∀ c : Dev Cert.Quant.nD,
      m' ((c.tc : Thread Cert.RefQuant.nD Cert.RefQuant.τ).loc Cert.RefQuant.main_arg0) = m ((c.tc : Thread Cert.Quant.nD Cert.Quant.τ).loc Cert.Quant.main_arg0)
      ∧ m' ((c.tc : Thread Cert.RefQuant.nD Cert.RefQuant.τ).loc Cert.RefQuant.main_arg1) = m ((c.tc : Thread Cert.Quant.nD Cert.Quant.τ).loc Cert.Quant.main_arg1)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v0_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v0_1) = v1 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1))
      ∧ θ_run (Cert.RefQuant.defs (F := Bits)) (onTc (τ := Cert.RefQuant.τ) (Cert.RefQuant.main (F := Bits))) ⟨m', fun _ => 0, g'⟩ (fun r => ∀ c : Dev Cert.RefQuant.nD,
          r.2.mem ((c.tc : Thread Cert.RefQuant.nD Cert.RefQuant.τ).loc Cert.RefQuant.main_v0_0) = v0 c
          ∧ r.2.mem ((c.tc : Thread Cert.RefQuant.nD Cert.RefQuant.τ).loc Cert.RefQuant.main_v0_1) = v1 c
          ∧ r.2.mem ((c.tc : Thread Cert.RefQuant.nD Cert.RefQuant.τ).loc Cert.RefQuant.main_arg0) = m' ((c.tc : Thread Cert.RefQuant.nD Cert.RefQuant.τ).loc Cert.RefQuant.main_arg0)
          ∧ r.2.mem ((c.tc : Thread Cert.RefQuant.nD Cert.RefQuant.τ).loc Cert.RefQuant.main_arg1) = m' ((c.tc : Thread Cert.RefQuant.nD Cert.RefQuant.τ).loc Cert.RefQuant.main_arg1))

def preserves_Whole_WholeIdeal : Prop :=
  True

def algebraic_WholeIdeal_RefWholeIdeal [hWholeIdeal : Cert.WholeIdeal.Facts] [hRefWholeIdeal : Cert.RefWholeIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.RefWholeIdeal.nD Cert.RefWholeIdeal.τ Cert.RefWholeIdeal.sig) → Buf (Elt Ideal) ℓ) (g' : Dev Cert.RefWholeIdeal.nD → PrngReg), Pre_WholeIdeal m →
    (∀ c : Dev Cert.WholeIdeal.nD,
      m' ((c.tc : Thread Cert.RefWholeIdeal.nD Cert.RefWholeIdeal.τ).loc Cert.RefWholeIdeal.main_arg0) = m ((c.tc : Thread Cert.WholeIdeal.nD Cert.WholeIdeal.τ).loc Cert.WholeIdeal.main_arg0)
      ∧ m' ((c.tc : Thread Cert.RefWholeIdeal.nD Cert.RefWholeIdeal.τ).loc Cert.RefWholeIdeal.main_arg1) = m ((c.tc : Thread Cert.WholeIdeal.nD Cert.WholeIdeal.τ).loc Cert.WholeIdeal.main_arg1)) →
    ∃ (v0 : (c : Dev Cert.WholeIdeal.nD) → Buf (Elt Ideal) ((c.tc : Thread Cert.WholeIdeal.nD Cert.WholeIdeal.τ).loc Cert.WholeIdeal.main_v4)) (v1 : (c : Dev Cert.WholeIdeal.nD) → Buf (Elt Ideal) ((c.tc : Thread Cert.WholeIdeal.nD Cert.WholeIdeal.τ).loc Cert.WholeIdeal.main_v5)) (v2 : (c : Dev Cert.WholeIdeal.nD) → Buf (Elt Ideal) ((c.tc : Thread Cert.WholeIdeal.nD Cert.WholeIdeal.τ).loc Cert.WholeIdeal.main_v6)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v4) = v0 c
          ∧ r.2.mem ((c.tc : Thread Cert.WholeIdeal.nD Cert.WholeIdeal.τ).loc Cert.WholeIdeal.main_v5) = v1 c
          ∧ r.2.mem ((c.tc : Thread Cert.WholeIdeal.nD Cert.WholeIdeal.τ).loc Cert.WholeIdeal.main_v6) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.RefWholeIdeal.defs (F := Ideal)) (onTc (τ := Cert.RefWholeIdeal.τ) (Cert.RefWholeIdeal.main (F := Ideal))) ⟨m', fun _ => 0, g'⟩ (fun r => ∀ c : Dev Cert.RefWholeIdeal.nD,
          r.2.mem ((c.tc : Thread Cert.RefWholeIdeal.nD Cert.RefWholeIdeal.τ).loc Cert.RefWholeIdeal.main_v9) = v0 c
          ∧ r.2.mem ((c.tc : Thread Cert.RefWholeIdeal.nD Cert.RefWholeIdeal.τ).loc Cert.RefWholeIdeal.main_v57) = v1 c
          ∧ r.2.mem ((c.tc : Thread Cert.RefWholeIdeal.nD Cert.RefWholeIdeal.τ).loc Cert.RefWholeIdeal.main_v46) = v2 c
          ∧ r.2.mem ((c.tc : Thread Cert.RefWholeIdeal.nD Cert.RefWholeIdeal.τ).loc Cert.RefWholeIdeal.main_arg0) = m' ((c.tc : Thread Cert.RefWholeIdeal.nD Cert.RefWholeIdeal.τ).loc Cert.RefWholeIdeal.main_arg0)
          ∧ r.2.mem ((c.tc : Thread Cert.RefWholeIdeal.nD Cert.RefWholeIdeal.τ).loc Cert.RefWholeIdeal.main_arg1) = m' ((c.tc : Thread Cert.RefWholeIdeal.nD Cert.RefWholeIdeal.τ).loc Cert.RefWholeIdeal.main_arg1))

def Claim : Prop :=
  ∃ (hProj : Cert.Proj.Facts) (hProjIdeal : Cert.ProjIdeal.Facts) (hRefProjIdeal : Cert.RefProjIdeal.Facts) (hQuant : Cert.Quant.Facts) (hRefQuant : Cert.RefQuant.Facts) (hWhole : Cert.Whole.Facts) (hWholeIdeal : Cert.WholeIdeal.Facts) (hRefWholeIdeal : Cert.RefWholeIdeal.Facts),
    quiescent_Proj (hProj := hProj)
    ∧ quiescent_ProjIdeal (hProjIdeal := hProjIdeal)
    ∧ quiescent_RefProjIdeal (hRefProjIdeal := hRefProjIdeal)
    ∧ quiescent_Quant (hQuant := hQuant)
    ∧ quiescent_RefQuant (hRefQuant := hRefQuant)
    ∧ quiescent_Whole (hWhole := hWhole)
    ∧ quiescent_WholeIdeal (hWholeIdeal := hWholeIdeal)
    ∧ quiescent_RefWholeIdeal (hRefWholeIdeal := hRefWholeIdeal)
    ∧ preserves_Proj_ProjIdeal
    ∧ algebraic_ProjIdeal_RefProjIdeal (hProjIdeal := hProjIdeal) (hRefProjIdeal := hRefProjIdeal)
    ∧ bitexact_Quant_RefQuant (hQuant := hQuant) (hRefQuant := hRefQuant)
    ∧ preserves_Whole_WholeIdeal
    ∧ algebraic_WholeIdeal_RefWholeIdeal (hWholeIdeal := hWholeIdeal) (hRefWholeIdeal := hRefWholeIdeal)
-- ==== Proj.lean ====
abbrev S1x4096x8192 : Shape := ⟨3, ![1, 4096, 8192]⟩
abbrev S8192x32768 : Shape := ⟨2, ![8192, 32768]⟩
abbrev S4096x8192 : Shape := ⟨2, ![4096, 8192]⟩
abbrev S4096x16384 : Shape := ⟨2, ![4096, 16384]⟩
abbrev S4096x1 : Shape := ⟨2, ![4096, 1]⟩
abbrev S1024x8192 : Shape := ⟨2, ![1024, 8192]⟩
abbrev S8192x256 : Shape := ⟨2, ![8192, 256]⟩
abbrev S1024x256 : Shape := ⟨2, ![1024, 256]⟩
abbrev S1024x1 : Shape := ⟨2, ![1024, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S4096x8192, .f32⟩
  | .hbm, ⟨3, _⟩ => ⟨S4096x8192, .bf16⟩
  | .hbm, ⟨4, _⟩ => ⟨S4096x16384, .f32⟩
  | .hbm, ⟨5, _⟩ => ⟨S4096x1, .f32⟩
  | .local _ .vmem, ⟨0, _⟩ => ⟨S1024x8192, .bf16⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S8192x256, .f32⟩
  | .local _ .vmem, ⟨5, _⟩ => ⟨S1024x256, .f32⟩
  | .local _ .vmem, ⟨6, _⟩ => ⟨S1024x256, .f32⟩
  | .local _ .vmem, ⟨7, _⟩ => ⟨S1024x1, .f32⟩
  | .local _ .vmem, ⟨8, _⟩ => ⟨S1024x1, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefProjIdeal.lean ====
abbrev S1x4096x8192 : Shape := ⟨3, ![1, 4096, 8192]⟩
abbrev S8192x32768 : Shape := ⟨2, ![8192, 32768]⟩
abbrev S1x4096x32768 : Shape := ⟨3, ![1, 4096, 32768]⟩
abbrev S1x4096x16384 : Shape := ⟨3, ![1, 4096, 16384]⟩
abbrev S_ : Shape := ⟨0, ![]⟩
abbrev S1x4096 : Shape := ⟨2, ![1, 4096]⟩
abbrev S1x4096x1 : Shape := ⟨3, ![1, 4096, 1]⟩
abbrev S4096x16384 : Shape := ⟨2, ![4096, 16384]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S1x4096x8192, .bf16⟩
  | .hbm, ⟨3, _⟩ => ⟨S8192x32768, .bf16⟩
  | .hbm, ⟨4, _⟩ => ⟨S1x4096x32768, .f32⟩
  | .hbm, ⟨5, _⟩ => ⟨S1x4096x16384, .f32⟩
  | .hbm, ⟨6, _⟩ => ⟨S1x4096x16384, .f32⟩
  | .hbm, ⟨7, _⟩ => ⟨S1x4096x16384, .f32⟩
  | .hbm, ⟨8, _⟩ => ⟨S1x4096x16384, .f32⟩
  | .hbm, ⟨9, _⟩ => ⟨S_, .f32⟩
  | .hbm, ⟨10, _⟩ => ⟨S1x4096x16384, .f32⟩
  | .hbm, ⟨11, _⟩ => ⟨S1x4096x16384, .f32⟩
  | .hbm, ⟨12, _⟩ => ⟨S_, .f32⟩
  | .hbm, ⟨13, _⟩ => ⟨S1x4096x16384, .f32⟩
  | .hbm, ⟨14, _⟩ => ⟨S1x4096x16384, .f32⟩
  | .hbm, ⟨15, _⟩ => ⟨S1x4096x16384, .f32⟩
  | .hbm, ⟨16, _⟩ => ⟨S1x4096x16384, .f32⟩
  | .hbm, ⟨17, _⟩ => ⟨S1x4096x16384, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S4096x16384, .f32⟩
  | .hbm, ⟨22, _⟩ => ⟨S4096x1, .f32⟩
  | _, _ => ⟨S1x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Quant.lean ====
abbrev S4096x16384 : Shape := ⟨2, ![4096, 16384]⟩
abbrev S4096x1 : Shape := ⟨2, ![4096, 1]⟩
abbrev S128x16384 : Shape := ⟨2, ![128, 16384]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x16384, .fp8e4m3⟩
  | .hbm, ⟨3, _⟩ => ⟨S4096x1, .f32⟩
  | .local _ .vmem, ⟨0, _⟩ => ⟨S128x16384, .f32⟩
  | .local _ .vmem, ⟨1, _⟩ => ⟨S128x16384, .f32⟩
  | .local _ .vmem, ⟨2, _⟩ => ⟨S128x1, .f32⟩
  | .local _ .vmem, ⟨3, _⟩ => ⟨S128x1, .f32⟩
  | .local _ .vmem, ⟨4, _⟩ => ⟨S128x16384, .fp8e4m3⟩
  | .local _ .vmem, ⟨5, _⟩ => ⟨S128x16384, .fp8e4m3⟩
  | .local _ .vmem, ⟨6, _⟩ => ⟨S128x1, .f32⟩
  | .local _ .vmem, ⟨7, _⟩ => ⟨S128x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefQuant.lean ====
abbrev S4096x16384 : Shape := ⟨2, ![4096, 16384]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x1, .f32⟩
  | .hbm, ⟨2, _⟩ => ⟨S4096x16384, .fp8e4m3⟩
  | .hbm, ⟨3, _⟩ => ⟨S4096x1, .f32⟩
  | .local _ .vmem, ⟨0, _⟩ => ⟨S4096x16384, .f32⟩
  | .local _ .vmem, ⟨1, _⟩ => ⟨S4096x1, .f32⟩
  | .local _ .vmem, ⟨2, _⟩ => ⟨S4096x16384, .fp8e4m3⟩
  | .local _ .vmem, ⟨3, _⟩ => ⟨S4096x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S4096x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Whole.lean ====
abbrev S1x4096x8192 : Shape := ⟨3, ![1, 4096, 8192]⟩
abbrev S8192x32768 : Shape := ⟨2, ![8192, 32768]⟩
abbrev S4096x8192 : Shape := ⟨2, ![4096, 8192]⟩
abbrev S4096x16384 : Shape := ⟨2, ![4096, 16384]⟩
abbrev S4096x1 : Shape := ⟨2, ![4096, 1]⟩
abbrev S1024x8192 : Shape := ⟨2, ![1024, 8192]⟩
abbrev S8192x256 : Shape := ⟨2, ![8192, 256]⟩
abbrev S1024x256 : Shape := ⟨2, ![1024, 256]⟩
abbrev S1024x1 : Shape := ⟨2, ![1024, 1]⟩
abbrev S1024 : Shape := ⟨1, ![1024]⟩
abbrev S128x16384 : Shape := ⟨2, ![128, 16384]⟩
abbrev S128x1 : Shape := ⟨2, ![128, 1]⟩
abbrev S1x4096x1 : Shape := ⟨3, ![1, 4096, 1]⟩
abbrev S1x4096x16384 : Shape := ⟨3, ![1, 4096, 16384]⟩

abbrev nBuf : Space → Nat
  | .hbm => 11
  | .vmem => 17
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S4096x8192, .f32⟩
  | .hbm, ⟨3, _⟩ => ⟨S4096x8192, .bf16⟩
  | .hbm, ⟨4, _⟩ => ⟨S4096x16384, .f32⟩
  | .hbm, ⟨5, _⟩ => ⟨S4096x1, .f32⟩
  | .hbm, ⟨6, _⟩ => ⟨S4096x16384, .fp8e4m3⟩
  | .hbm, ⟨7, _⟩ => ⟨S4096x1, .f32⟩
  | .hbm, ⟨8, _⟩ => ⟨S1x4096x1, .f32⟩
  | .hbm, ⟨9, _⟩ => ⟨S1x4096x16384, .fp8e4m3⟩
  | .hbm, ⟨10, _⟩ => ⟨S1x4096x1, .f32⟩
  | .local _ .vmem, ⟨0, _⟩ => ⟨S1024x8192, .bf16⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S8192x256, .f32⟩
  | .local _ .vmem, ⟨5, _⟩ => ⟨S1024x256, .f32⟩
  | .local _ .vmem, ⟨6, _⟩ => ⟨S1024x256, .f32⟩
  | .local _ .vmem, ⟨7, _⟩ => ⟨S1024x1, .f32⟩
  | .local _ .vmem, ⟨8, _⟩ => ⟨S1024x1, .f32⟩
  | .local _ .vmem, ⟨9, _⟩ => ⟨S128x16384, .f32⟩
  | .local _ .vmem, ⟨10, _⟩ => ⟨S128x16384, .f32⟩
  | .local _ .vmem, ⟨11, _⟩ => ⟨S128x1, .f32⟩
  | .local _ .vmem, ⟨12, _⟩ => ⟨S128x1, .f32⟩
  | .local _ .vmem, ⟨13, _⟩ => ⟨S128x16384, .fp8e4m3⟩
  | .local _ .vmem, ⟨14, _⟩ => ⟨S128x16384, .fp8e4m3⟩
  | .local _ .vmem, ⟨15, _⟩ => ⟨S128x1, .f32⟩
  | .local _ .vmem, ⟨16, _⟩ => ⟨S128x1, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== RefWholeIdeal.lean ====
abbrev S1x4096x8192 : Shape := ⟨3, ![1, 4096, 8192]⟩
abbrev S8192x32768 : Shape := ⟨2, ![8192, 32768]⟩
abbrev S1x4096x32768 : Shape := ⟨3, ![1, 4096, 32768]⟩
abbrev S1x4096x16384 : Shape := ⟨3, ![1, 4096, 16384]⟩
abbrev S_ : Shape := ⟨0, ![]⟩
abbrev S1x4096 : Shape := ⟨2, ![1, 4096]⟩
abbrev S1x4096x1 : Shape := ⟨3, ![1, 4096, 1]⟩
abbrev S254 : Shape := ⟨1, ![254]⟩
abbrev S1x1x254 : Shape := ⟨3, ![1, 1, 254]⟩
abbrev S1x4096x254 : Shape := ⟨3, ![1, 4096, 254]⟩

abbrev nBuf : Space → Nat
  | .hbm => 97
  | .vmem => 3
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S1x4096x8192, .bf16⟩
  | .hbm, ⟨3, _⟩ => ⟨S8192x32768, .bf16⟩
  | .hbm, ⟨4, _⟩ => ⟨S1x4096x32768, .f32⟩
  | .hbm, ⟨5, _⟩ => ⟨S1x4096x16384, .f32⟩
  | .hbm, ⟨6, _⟩ => ⟨S1x4096x16384, .f32⟩
  | .hbm, ⟨7, _⟩ => ⟨S1x4096x16384, .f32⟩
  | .hbm, ⟨8, _⟩ => ⟨S1x4096x16384, .f32⟩
  | .hbm, ⟨9, _⟩ => ⟨S_, .f32⟩
  | .hbm, ⟨10, _⟩ => ⟨S1x4096x16384, .f32⟩
  | .hbm, ⟨11, _⟩ => ⟨S1x4096x16384, .f32⟩
  | .hbm, ⟨12, _⟩ => ⟨S_, .f32⟩
  | .hbm, ⟨13, _⟩ => ⟨S1x4096x16384, .f32⟩
  | .hbm, ⟨14, _⟩ => ⟨S1x4096x16384, .f32⟩
  | .hbm, ⟨15, _⟩ => ⟨S1x4096x16384, .f32⟩
  | .hbm, ⟨16, _⟩ => ⟨S1x4096x16384, .f32⟩
  | .hbm, ⟨17, _⟩ => ⟨S1x4096x16384, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S254, .i32⟩
  | .hbm, ⟨25, _⟩ => ⟨S_, .i32⟩
  | .hbm, ⟨26, _⟩ => ⟨S254, .i32⟩
  | .hbm, ⟨27, _⟩ => ⟨S254, .i32⟩
  | .hbm, ⟨28, _⟩ => ⟨S254, .f32⟩
  | .hbm, ⟨29, _⟩ => ⟨S_, .f32⟩
  | .hbm, ⟨30, _⟩ => ⟨S254, .f32⟩
  | .hbm, ⟨31, _⟩ => ⟨S254, .f32⟩
  | .hbm, ⟨32, _⟩ => ⟨S1x1x254, .f32⟩
  | .hbm, ⟨33, _⟩ => ⟨S1x4096x254, .f32⟩
  | .hbm, ⟨34, _⟩ => ⟨S1x4096x254, .f32⟩
  | .hbm, ⟨35, _⟩ => ⟨S1x4096x254, .i1⟩
  | .hbm, ⟨36, _⟩ => ⟨S1x4096x254, .i32⟩
  | .hbm, ⟨37, _⟩ => ⟨S_, .i32⟩
  | .hbm, ⟨38, _⟩ => ⟨S1x4096, .i32⟩
  | .hbm, ⟨39, _⟩ => ⟨S1x4096x1, .i32⟩
  | .hbm, ⟨40, _⟩ => ⟨S_, .i32⟩
  | .hbm, ⟨41, _⟩ => ⟨S1x4096x1, .i32⟩
  | .hbm, ⟨42, _⟩ => ⟨S1x4096x1, .i1⟩
  | .hbm, ⟨43, _⟩ => ⟨S_, .f32⟩
  | .hbm, ⟨44, _⟩ => ⟨S1x4096x1, .f32⟩
  | .hbm, ⟨45, _⟩ => ⟨S1x4096x1, .i1⟩
  | .hbm, ⟨46, _⟩ => ⟨S1x4096x1, .i1⟩
  | .hbm, ⟨47, _⟩ => ⟨S_, .i32⟩
  | .hbm, ⟨48, _⟩ => ⟨S1x4096x1, .i32⟩
  | .hbm, ⟨49, _⟩ => ⟨S_, .i32⟩
  | .hbm, ⟨50, _⟩ => ⟨S1x4096x1, .i32⟩
  | .hbm, ⟨51, _⟩ => ⟨S1x4096x1, .i32⟩
  | .hbm, ⟨52, _⟩ => ⟨S1x4096x1, .i32⟩
  | .hbm, ⟨53, _⟩ => ⟨S_, .f32⟩
  | .hbm, ⟨54, _⟩ => ⟨S1x4096x1, .f32⟩
  | .hbm, ⟨55, _⟩ => ⟨S1x4096x1, .i1⟩
  | .hbm, ⟨56, _⟩ => ⟨S_, .i32⟩
  | .hbm, ⟨57, _⟩ => ⟨S1x4096x1, .i32⟩
  | .hbm, ⟨58, _⟩ => ⟨S1x4096x1, .i32⟩
  | .hbm, ⟨59, _⟩ => ⟨S1x4096x1, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S_, .i32⟩
  | .hbm, ⟨64, _⟩ => ⟨S1x4096x1, .i32⟩
  | .hbm, ⟨65, _⟩ => ⟨S1x4096x1, .i1⟩
  | .hbm, ⟨66, _⟩ => ⟨S_, .i32⟩
  | .hbm, ⟨67, _⟩ => ⟨S1x4096x1, .i32⟩
  | .hbm, ⟨68, _⟩ => ⟨S1x4096x1, .i1⟩
  | .hbm, ⟨69, _⟩ => ⟨S_, .f32⟩
  | .hbm, ⟨70, _⟩ => ⟨S_, .f32⟩
  | .hbm, ⟨71, _⟩ => ⟨S1x4096x1, .f32⟩
  | .hbm, ⟨72, _⟩ => ⟨S1x4096x1, .f32⟩
  | .hbm, ⟨73, _⟩ => ⟨S_, .f32⟩
  | .hbm, ⟨74, _⟩ => ⟨S_, .f32⟩
  | .hbm, ⟨75, _⟩ => ⟨S1x4096x1, .f32⟩
  | .hbm, ⟨76, _⟩ => ⟨S1x4096x1, .f32⟩
  | .hbm, ⟨77, _⟩ => ⟨S1x4096x1, .i32⟩
  | .hbm, ⟨78, _⟩ => ⟨S1x4096x1, .f32⟩
  | .hbm, ⟨79, _⟩ => ⟨S_, .f32⟩
  | .hbm, ⟨80, _⟩ => ⟨S1x4096x1, .f32⟩
  | .hbm, ⟨81, _⟩ => ⟨S1x4096x1, .f32⟩
  | .hbm, ⟨82, _⟩ => ⟨S_, .i32⟩
  | .hbm, ⟨83, _⟩ => ⟨S1x4096x1, .i32⟩
  | .hbm, ⟨84, _⟩ => ⟨S1x4096x1, .i1⟩
  | .hbm, ⟨85, _⟩ => ⟨S_, .i32⟩
  | .hbm, ⟨86, _⟩ => ⟨S1x4096x1, .i32⟩
  | .hbm, ⟨87, _⟩ => ⟨S1x4096x1, .i1⟩
  | .hbm, ⟨88, _⟩ => ⟨S_, .f32⟩
  | .hbm, ⟨89, _⟩ => ⟨S_, .f32⟩
  | .hbm, ⟨90, _⟩ => ⟨S1x4096x1, .f32⟩
  | .hbm, ⟨91, _⟩ => ⟨S1x4096x1, .f32⟩
  | .hbm, ⟨92, _⟩ => ⟨S_, .f32⟩
  | .hbm, ⟨93, _⟩ => ⟨S_, .f32⟩
  | .hbm, ⟨94, _⟩ => ⟨S1x4096x1, .f32⟩
  | .hbm, ⟨95, _⟩ => ⟨S1x4096x1, .f32⟩
  | .hbm, ⟨96, _⟩ => ⟨S1x4096x16384, .fp8e4m3⟩
  | .local _ .vmem, ⟨0, _⟩ => ⟨S1x4096x16384, .f32⟩
  | .local _ .vmem, ⟨1, _⟩ => ⟨S1x4096x1, .f32⟩
  | .local _ .vmem, ⟨2, _⟩ => ⟨S1x4096x16384, .fp8e4m3⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_c_11 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_call3_v0 : Ref sig .tc := ⟨.hbm, 70, rfl⟩
abbrev main_call3_v1 : Ref sig .tc := ⟨.hbm, 71, rfl⟩
abbrev main_v45 : Ref sig .tc := ⟨.hbm, 72, rfl⟩
abbrev main_cst_13 : Ref sig .tc := ⟨.hbm, 73, rfl⟩
abbrev main_call4_v0 : Ref sig .tc := ⟨.hbm, 74, rfl⟩
abbrev main_call4_v1 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_c_15 : Ref sig .tc := ⟨.hbm, 82, rfl⟩
abbrev main_v51 : Ref sig .tc := ⟨.hbm, 83, rfl⟩
abbrev main_v52 : Ref sig .tc := ⟨.hbm, 84, rfl⟩
abbrev main_c_16 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_v55 : Ref sig .tc := ⟨.hbm, 91, rfl⟩
abbrev main_cst_18 : Ref sig .tc := ⟨.hbm, 92, rfl⟩
abbrev main_call6_v0 : Ref sig .tc := ⟨.hbm, 93, rfl⟩
abbrev main_call6_v1 : Ref sig .tc := ⟨.hbm, 94, rfl⟩
abbrev main_v56 : Ref sig .tc := ⟨.hbm, 95, rfl⟩
abbrev main_v57 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x4096x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.ProjSpec.lean ====
/- What the projecting call computes, entry by entry over the reals, and that the reference computes it: `h` at row `r` and column `f`
   is `gate · logistic gate · up`, where `gate` and `up` are the row's inner products with weight columns `f` and `16384 + f`, and
   the row maximum is the greatest absolute value of the row of `h`. -/
module

public import proofs.«01_k».proof.Defs
public import proofs.«01_k».proof.Proof.Gen.RefProjIdeal.Run
public import Idealize.ShloMosaic.Lib.Pointwise.Tactic
public import Idealize.ShloMosaic.PureOps.Ideal.Laws
public import Idealize.ShloMosaic.Lib.ValueLayout
public import Idealize.ShloMosaic.Lib.ValueLayoutCasts

@[expose] public section

set_option maxRecDepth 16384

noncomputable section

open Idealize.ShloMosaic Idealize.ShloMosaic.TcCoe Idealize.SL.Sem

namespace Cert.ProjSpec

/-- The activations, one batch of 4096 rows. -/
abbrev X := FVec Ideal ⟨3, ![1, 4096, 8192]⟩ .f32
/-- The weights, gate columns then up columns. -/
abbrev W := FVec Ideal ⟨2, ![8192, 32768]⟩ .f32

/-- A row's inner product with a weight column. -/
def dotAt (x : X) (w : W) (r : Fin 4096) (f : Fin 32768) : EReal :=
  ∑ k : Fin 8192, x (ix3 0 r k) * w (ix2 k f)

/-- `gate · logistic gate · up`. -/
def swiglu (g u : EReal) : EReal := g * Ideal.div 1 (1 + Ideal.exp (-g)) * u

/-- `h` at a row and a column. -/
def hAt (x : X) (w : W) (r : Fin 4096) (f : Fin 16384) : EReal :=
  swiglu (dotAt x w r ⟨f.val, by omega⟩) (dotAt x w r ⟨16384 + f.val, by omega⟩)

/-- The greatest absolute value of a row of `h`. -/
def amaxAt (x : X) (w : W) (r : Fin 4096) : EReal :=
  Finset.univ.sup fun f : Fin 16384 => max (hAt x w r f) (-(hAt x w r f))

/-- `h` as an array. -/
def hArr (x : X) (w : W) : FVec Ideal ⟨2, ![4096, 16384]⟩ .f32 := fun i => hAt x w (i 0) (i 1)
/-- The row maxima as an array. -/
def amaxArr (x : X) (w : W) : FVec Ideal ⟨2, ![4096, 1]⟩ .f32 := fun i => amaxAt x w (i 0)

end Cert.ProjSpec

namespace Cert.RefProjIdeal.Value

open Cert.RefProjIdeal Cert.RefProjIdeal.Gen Cert.ProjSpec

variable (m : (ℓ : Loc nD τ sig) → Buf (Elt Ideal) ℓ) (ρ : Dev nD → PrngReg)

/-- The product the reference takes. -/
abbrev prod (x : X) (w : W) : FVec Ideal S1x4096x32768 .f32 :=
  Host.dotGeneral dot_S1x4096x8192_S8192x32768_S1x4096x32768_2_0_01_1_n_n none
    (truncf .bf16 x bitsLt_bf16_f32) (truncf .bf16 w bitsLt_bf16_f32)

/-- The product read at a row and a weight column. -/
theorem prod_apply (x : X) (w : W) (r : Fin 4096) (f : Fin 32768) : prod x w (ix3 0 r f) = dotAt x w r f := by
  let D := dot_S1x4096x8192_S8192x32768_S1x4096x32768_2_0_01_1_n_n
  show FloatOps.dotGeneral D none _ _ _ (ix3 0 r f) = ∑ k : Fin 8192, x (ix3 0 r k) * w (ix2 k f)
  rw [Ideal.dotGeneral_apply, ← Equiv.sum_comp (ValueIdx.contrEquiv1 D 8192 rfl rfl).symm]
  refine Finset.sum_congr rfl fun k _ => ?_
  have hk := ValueIdx.contrEquiv1_symm_val D 8192 rfl rfl k
  have el : D.lhsIdx (ix3 0 r f) ((ValueIdx.contrEquiv1 D 8192 rfl rfl).symm k) = ix3 0 r k := by
    funext a; apply Fin.ext
    match a with
    | ⟨0, _⟩ => rfl
    | ⟨1, _⟩ => rfl
    | ⟨2, _⟩ => exact hk
  have er : D.rhsIdx (ix3 0 r f) ((ValueIdx.contrEquiv1 D 8192 rfl rfl).symm k) = ix2 k f := by
    funext a; apply Fin.ext
    match a with
    | ⟨0, _⟩ => exact hk
    | ⟨1, _⟩ => rfl
  rw [el, er]
  rfl

/-- The reference's `h`, before its reshape. -/
abbrev hRef (x : X) (w : W) : FVec Ideal S1x4096x16384 .f32 :=
  mulf (mulf (extractStridedSlice S1x4096x16384 ![0, 0, 0] (prod x w) slices_S1x4096x32768_S1x4096x16384_0_0_0)
    (Host.divf (broadcastInDim S1x4096x16384 ![] bcast_S_S1x4096x16384 (constant S_ .f32 0x3F800000#32))
      (addf (broadcastInDim S1x4096x16384 ![] bcast_S_S1x4096x16384 (constant S_ .f32 0x3F800000#32))
        (Host.exp (Host.negf (extractStridedSlice S1x4096x16384 ![0, 0, 0] (prod x w) slices_S1x4096x32768_S1x4096x16384_0_0_0))))))
    (extractStridedSlice S1x4096x16384 ![0, 0, 16384] (prod x w) slices_S1x4096x32768_S1x4096x16384_0_0_16384)

/-- The reference's `h` at a row and a column. -/
theorem hRef_apply (x : X) (w : W) (r : Fin 4096) (f : Fin 16384) : hRef x w (ix3 0 r f) = hAt x w r f := by
  unfold hRef hAt swiglu
  rw [← prod_apply, ← prod_apply]
  generalize prod x w = p
  pointwise

/-- The reference's first result. -/
theorem h_eq (x : X) (w : W) : shapeCast S4096x16384 (hRef x w) shapeCasts_S1x4096x16384_S4096x16384 = hArr x w := by
  funext i
  obtain ⟨r, f, rfl⟩ : ∃ r f, i = ix2 r f := ⟨i 0, i 1, by funext a; fin_cases a <;> rfl⟩
  show _ = hAt x w r f
  rw [← hRef_apply]
  exact ValueIdx.shapeCast_1ab_ab_apply _ _ r f

/-- The reference's row maxima, before their reshape. -/
abbrev amaxRef (x : X) (w : W) : FVec Ideal S1x4096x1 .f32 :=
  broadcastInDim S1x4096x1 ![0, 1] bcast_S1x4096_S1x4096x1_0_1
    (Host.reduce FloatOps.maximumf (Host.absf (hRef x w)) (constant S_ .f32 0xFF800000#32) reducesTo_S1x4096x16384_S1x4096_d2 h_S_)

/-- The reference's row maximum at a row: the greatest absolute value of `h`'s row. -/
theorem amaxRef_apply (x : X) (w : W) (r : Fin 4096) : amaxRef x w (ix3 0 r 0) = amaxAt x w r := by
  have hred : S1x4096x16384.Reduces [2] S1x4096 := by decide
  have e : amaxRef x w (ix3 0 r 0) = Host.reduce FloatOps.maximumf (Host.absf (hRef x w)) (constant S_ .f32 0xFF800000#32)
      reducesTo_S1x4096x16384_S1x4096_d2 h_S_ (ix2 0 r) := by
    unfold amaxRef
    generalize Host.reduce FloatOps.maximumf (Host.absf (hRef x w)) (constant S_ .f32 0xFF800000#32)
      reducesTo_S1x4096x16384_S1x4096_d2 h_S_ = p
    pointwise
  rw [e, Host.reduce_eq_fold_single (a := 2) _ _ _ _ hred]
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  unfold amaxAt Finset.sup
  refine Finset.fold_congr fun (f : Fin 16384) _ => ?_
  have hl : hred.lift (ix2 0 r) f = ix3 0 r f := by
    funext a; apply Fin.ext
    match a with
    | ⟨0, _⟩ => rfl
    | ⟨1, _⟩ => rfl
    | ⟨2, _⟩ => rfl
  show max (hRef x w (hred.lift (ix2 0 r) f)) (-(hRef x w (hred.lift (ix2 0 r) f))) = _
  rw [hl, hRef_apply]

/-- The reference's second result. -/
theorem amax_eq (x : X) (w : W) : shapeCast S4096x1 (amaxRef x w) shapeCasts_S1x4096x1_S4096x1 = amaxArr x w := by
  funext i
  obtain ⟨r, u, rfl⟩ : ∃ r u, i = ix2 r u := ⟨i 0, i 1, by funext a; fin_cases a <;> rfl⟩
  show _ = amaxAt x w r
  rw [← amaxRef_apply]
  have hu : u = 0 := Fin.ext (by have := u.isLt; show u.val = 0; omega)
  subst hu
  exact ValueIdx.shapeCast_1ab_ab_apply _ _ r 0

/-- The reference's run, read. -/
theorem run_arrays : θ_run defs (onTc (τ := τ) (main (F := Ideal))) ⟨m, fun _ => 0, ρ⟩ fun r => ∀ c : Dev nD,
      r.2.mem ((c.tc : Thread nD τ).loc main_v10) = hArr (m ((c.tc : Thread nD τ).loc main_arg0)) (m ((c.tc : Thread nD τ).loc main_arg1))
      ∧ r.2.mem ((c.tc : Thread nD τ).loc main_v11) = amaxArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (h_eq _ _), (h c).2.1.trans (amax_eq _ _), (h c).2.2⟩) (run m ρ)

end Cert.RefProjIdeal.Value

end
-- ==== Proof.ProjBlock.lean ====
/- One grid point of the projecting call over the reals: the block of `h` it computes from a block of rows and the two blocks of weight
   columns, and the greatest absolute values of that block's rows. -/
module

public import proofs.«01_k».proof.Defs
public import proofs.«01_k».proof.Proof.ProjSpec
public import proofs.«01_k».proof.Proof.Gen.ProjIdeal.Value
public import Idealize.ShloMosaic.Lib.MatmulPlain

@[expose] public section

set_option maxRecDepth 16384

noncomputable section

open Idealize.ShloMosaic Idealize.ShloMosaic.TcCoe Idealize.SL.Sem
open Idealize.ShloMosaic.Pipeline (Dat)

namespace Cert.ProjIdeal.Blocks

open Cert.ProjIdeal Cert.ProjIdeal.Gen Cert.ProjSpec

/-- A block's product read at a row and a column. -/
theorem matmul_apply (a : FVec Ideal S1024x8192 .bf16) (b : FVec Ideal S8192x256 .bf16) (p : Fin 1024) (q : Fin 256) :
    matmul dot_S1024x8192_S8192x256_S1024x256_1_0_0_1_n_n none a b (constant S1024x256 .f32 0x00000000#32) (ix2 p q)
      = ∑ k : Fin 8192, a (ix2 p k) * b (ix2 k q) := by
  have h := Ideal.matmul_plain_apply none a b (constant S1024x256 .f32 0x00000000#32) p q
  refine Eq.trans ?_ (h.trans ?_)
  · rfl
  · have hz : (constant S1024x256 .f32 0x00000000#32 : FVec Ideal S1024x256 .f32) (ValueIdx.ix2 p q) = (0 : EReal) := by
      show Ideal.ofBits .f32 0x00000000#32 = 0
      simp [Ideal.ofBits, Ideal.ieee]
    rw [hz]
    exact zero_add _

/-- The block of `h` at a row and a column. -/
theorem pay1_apply (v0 : Vec Ideal S1024x8192 .bf16) (v2 v5 : Vec Ideal S8192x256 .f32) (p : Fin 1024) (q : Fin 256) :
    k0_pay1 v0 v2 v5 (ix2 p q)
      = swiglu (∑ k : Fin 8192, v0 (ix2 p k) * v2 (ix2 k q)) (∑ k : Fin 8192, v0 (ix2 p k) * v5 (ix2 k q)) := by
  unfold k0_pay1
  rw [shapeCast_self]
  have h1 := matmul_apply v0 (truncf .bf16 v2 bitsLt_bf16_f32) p q
  have h2 := matmul_apply v0 (truncf .bf16 v5 bitsLt_bf16_f32) p q
  refine Eq.trans ?_ (congrArg₂ swiglu h1 h2)
  rfl

/-- The greatest absolute value of a row of the block. -/
theorem pay2_apply (v0 : Vec Ideal S1024x8192 .bf16) (v2 v5 : Vec Ideal S8192x256 .f32) (p : Fin 1024) (u : Fin 1) :
    k0_pay2 v0 v2 v5 (ix2 p u)
      = Finset.univ.sup fun q : Fin 256 => max (k0_pay1 v0 v2 v5 (ix2 p q)) (-(k0_pay1 v0 v2 v5 (ix2 p q))) := by
  unfold k0_pay2
  refine (ValueIdx.shapeCast_a_a1_apply _ _ p u).trans ?_
  refine (Ideal.multiReduction_maximumf_single (a := 1) _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  unfold Finset.sup
  refine Finset.fold_congr fun (q : Fin 256) _ => ?_
  have hl : reduces_S1024x256_S1024.lift (ValueIdx.ix1 p) q = ix2 p q := by
    funext a; apply Fin.ext
    match a with
    | ⟨0, _⟩ => rfl
    | ⟨1, _⟩ => rfl
  show max (k0_pay1 v0 v2 v5 (reduces_S1024x256_S1024.lift (ValueIdx.ix1 p) q)) (-(k0_pay1 v0 v2 v5 (reduces_S1024x256_S1024.lift (ValueIdx.ix1 p) q))) = _
  rw [hl]

/-- The maxima after a later block of columns: the greater of those before and the block's. -/
theorem pay3_apply (v0 : Vec Ideal S1024x8192 .bf16) (v2 v5 : Vec Ideal S8192x256 .f32) (o : Vec Ideal S1024x1 .f32) (y : S1024x1.Idx) :
    k0_pay3 v0 v2 v5 o y = max (o y) (k0_pay2 v0 v2 v5 y) := by
  unfold k0_pay3
  rw [shapeCast_self]
  rfl

section Outs
variable {F : FTy → Type} [FloatOps F]

theorem hz : (![0, 0] : Fin 2 → Nat) = fun _ => 0 := funext fun a => by fin_cases a <;> rfl

variable (c : Dev nD) (i : grid0.Coords) (arg2 : Memref sig .tc .vmem S1024x8192 .bf16) (harg2 : arg2.IsWhole)
  (arg3 : Memref sig .tc .vmem S8192x256 .f32) (harg3 : arg3.IsWhole) (arg4 : Memref sig .tc .vmem S8192x256 .f32) (harg4 : arg4.IsWhole)
  (arg5 : Memref sig .tc .vmem S1024x256 .f32) (harg5 : arg5.IsWhole) (arg6 : Memref sig .tc .vmem S1024x1 .f32) (harg6 : arg6.IsWhole)
  (x0 : Vec F S1024x8192 .bf16) (x1 x2 : Vec F S8192x256 .f32) (xo : Vec F S1024x1 .f32)

/-- At a row block's first column block the body leaves the block of `h`. -/
theorem out_A_3 (h0) (h1) : out0_A_3 c i arg2 harg2 arg3 harg3 arg4 harg4 arg5 harg5 arg6 harg6 h0 h1 x0 x1 x2 = k0_pay1 x0 x1 x2 := by
  unfold out0_A_3
  rw [View.read_writes_eq_canon _ _ _ (cover0_A_3 c i arg2 harg2 arg3 harg3 arg4 harg4 arg5 harg5 arg6 harg6 h0 h1 x0 x1 x2)]
  unfold kernelRun0_A
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- There it leaves the block's row maxima. -/
theorem out_A_4 (h0) (h1) : out0_A_4 c i arg2 harg2 arg3 harg3 arg4 harg4 arg5 harg5 arg6 harg6 h0 h1 x0 x1 x2 = k0_pay2 x0 x1 x2 := by
  unfold out0_A_4
  rw [View.read_writes_eq_canon _ _ _ (cover0_A_4 c i arg2 harg2 arg3 harg3 arg4 harg4 arg5 harg5 arg6 harg6 h0 h1 x0 x1 x2)]
  unfold kernelRun0_A
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- At a later column block it leaves the block of `h`. -/
theorem out_B_3 (h0) (h1) : out0_B_3 c i arg2 harg2 arg3 harg3 arg4 harg4 arg5 harg5 arg6 harg6 h0 h1 x0 x1 x2 xo = k0_pay1 x0 x1 x2 := by
  unfold out0_B_3
  rw [View.read_writes_eq_canon _ _ _ (cover0_B_3 c i arg2 harg2 arg3 harg3 arg4 harg4 arg5 harg5 arg6 harg6 h0 h1 x0 x1 x2 xo)]
  unfold kernelRun0_B
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- There it leaves the greater of the maxima before and the block's. -/
theorem out_B_4 (h0) (h1) : out0_B_4 c i arg2 harg2 arg3 harg3 arg4 harg4 arg5 harg5 arg6 harg6 h0 h1 x0 x1 x2 xo = k0_pay3 x0 x1 x2 xo := by
  unfold out0_B_4
  rw [View.read_writes_eq_canon _ _ _ (cover0_B_4 c i arg2 harg2 arg3 harg3 arg4 harg4 arg5 harg5 arg6 harg6 h0 h1 x0 x1 x2 xo)]
  unfold kernelRun0_B
  dsimp only
  sl_unfold_words
  rw [View.canon_unit_zero hz]
  simp only [View.readAt_eq_ld, harg2.read_unread, harg3.read_unread, harg4.read_unread, harg6.read_unread, View.ld_unit_zero (S := S1024x8192) hz, View.ld_unit_zero (S := S8192x256) hz, View.ld_unit_zero (S := S1024x1) hz]

end Outs

end Cert.ProjIdeal.Blocks

end
-- ==== Proof.ProjValue.lean ====
/- The projecting call's claim: over the reals its two result arrays, the activations `h` and the row maxima, are the reference's. Grid
   point `t` takes row block `t / 64` (1024 rows) and column block `t % 64` (256 gate columns and the 256 up columns that go with
   them). It writes its block of `h`, and keeps the greatest absolute value of each of its rows so far. After the last column block
   that is the maximum over the whole row. -/
module

public import proofs.«01_k».proof.Defs
public import proofs.«01_k».proof.Proof.ProjBlock
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## Maxima over a row's first columns -/

namespace Cert.ProjSpec

/-- The greatest absolute value among the first `n` columns of a row of `h`. -/
def partAt (x : X) (w : W) (r : Fin 4096) (n : Nat) : EReal :=
  (Finset.univ.filter fun f : Fin 16384 => f.val < n).sup fun f => max (hAt x w r f) (-(hAt x w r f))

/-- Among all columns: the row maximum. -/
theorem partAt_all (x : X) (w : W) (r : Fin 4096) : partAt x w r 16384 = amaxAt x w r := by
  unfold partAt amaxAt
  rw [Finset.filter_true_of_mem fun (f : Fin 16384) _ => f.isLt]

/-- One block of 256 columns more: the greater of the maximum before and the block's. -/
theorem partAt_succ (x : X) (w : W) (r : Fin 4096) (j : Nat) (hj : j < 64) (B : Fin 256 → EReal)
    (hB : ∀ (q : Fin 256) (f : Fin 16384), f.val = j * 256 + q.val → B q = max (hAt x w r f) (-(hAt x w r f))) :
    max (partAt x w r (j * 256)) (Finset.univ.sup B) = partAt x w r ((j + 1) * 256) := by
  apply le_antisymm
  · apply max_le
    · exact Finset.sup_mono fun f hf => by
        simp only [Finset.mem_filter, Finset.mem_univ, true_and] at hf ⊢; omega
    · refine Finset.sup_le fun q _ => ?_
      have hq := q.isLt
      rw [hB q ⟨j * 256 + q.val, by omega⟩ rfl]
      exact Finset.le_sup (f := fun f => max (hAt x w r f) (-(hAt x w r f)))
        (by simp only [Finset.mem_filter, Finset.mem_univ, true_and]; omega)
  · refine Finset.sup_le fun f hf => ?_
    simp only [Finset.mem_filter, Finset.mem_univ, true_and] at hf
    by_cases hlt : f.val < j * 256
    · refine le_trans ?_ (le_max_left _ _)
      exact Finset.le_sup (f := fun f => max (hAt x w r f) (-(hAt x w r f)))
        (by simp only [Finset.mem_filter, Finset.mem_univ, true_and]; exact hlt)
    · refine le_trans ?_ (le_max_right _ _)
      rw [← hB ⟨f.val - j * 256, by omega⟩ f (by show f.val = j * 256 + (f.val - j * 256); omega)]
      exact Finset.le_sup (f := B) (Finset.mem_univ _)

/-- The first block of columns: its own maximum. -/
theorem partAt_one (x : X) (w : W) (r : Fin 4096) (B : Fin 256 → EReal)
    (hB : ∀ (q : Fin 256) (f : Fin 16384), f.val = q.val → B q = max (hAt x w r f) (-(hAt x w r f))) :
    Finset.univ.sup B = partAt x w r 256 := by
  have h := partAt_succ x w r 0 (by omega) B fun q f hf => hB q f (by omega)
  have hz : partAt x w r (0 * 256) = ⊥ := by
    unfold partAt
    rw [Finset.filter_false_of_mem fun f _ => by omega]
    exact Finset.sup_empty
  rw [hz, max_eq_right bot_le] at h
  exact h

end Cert.ProjSpec

/-! ## The kernel's blocks -/

namespace Cert.ProjIdeal.Blocks

open Cert.ProjIdeal Cert.ProjIdeal.Gen Cert.ProjSpec

variable (m : (ℓ : Loc nD τ sig) → Buf (Elt Ideal) ℓ) (ρ : Dev nD → PrngReg)

/-- The activations a device starts from. -/
abbrev xOf (c : Dev nD) : X := m ((c : Thread nD τ).loc main_arg0)
/-- The weights a device starts from. -/
abbrev wOf (c : Dev nD) : W := m ((c : Thread nD τ).loc main_arg1)

/-- Which block of its array each window is on at point `t`. -/
theorem idx_facts : ∀ t : Fin cfg0.N,
    (win0_0.index t 0 = t.val / 64 ∧ win0_0.index t 1 = 0) ∧ (win0_1.index t 0 = 0 ∧ win0_1.index t 1 = t.val % 64)
      ∧ (win0_2.index t 0 = 0 ∧ win0_2.index t 1 = t.val % 64 + 64) ∧ (win0_3.index t 0 = t.val / 64 ∧ win0_3.index t 1 = t.val % 64)
      ∧ (win0_4.index t 0 = t.val / 64 ∧ win0_4.index t 1 = 0) :=
  (by decide +kernel : ∀ t : Fin grid0.N,
    (win0_0.index t 0 = t.val / 64 ∧ win0_0.index t 1 = 0) ∧ (win0_1.index t 0 = 0 ∧ win0_1.index t 1 = t.val % 64)
      ∧ (win0_2.index t 0 = 0 ∧ win0_2.index t 1 = t.val % 64 + 64) ∧ (win0_3.index t 0 = t.val / 64 ∧ win0_3.index t 1 = t.val % 64)
      ∧ (win0_4.index t 0 = t.val / 64 ∧ win0_4.index t 1 = 0))

/-- What the region starts from in the rounded activations: the activations, their batch axis dropped. -/
theorem V_rows (c : Dev nD) (r : Fin 4096) (k : Fin 8192) :
    (V m c main_v1 : FVec Ideal S4096x8192 .bf16) (ix2 r k) = xOf m c (ix3 0 r k) := by
  have h : (V m c main_v1 : FVec Ideal S4096x8192 .bf16)
      = truncf .bf16 (shapeCast S4096x8192 (xOf m c) shapeCasts_S1x4096x8192_S4096x8192) bitsLt_bf16_f32 := by
    entry_read
    rfl
  rw [h]
  exact ValueIdx.shapeCast_1ab_ab_apply (xOf m c) shapeCasts_S1x4096x8192_S4096x8192 r k

/-- The block of rows at point `t`: the activations' rows from `1024 (t / 64)` on. -/
theorem iblk_0_apply (c : Dev nD) (t : Fin cfg0.N) (p : Fin 1024) (k : Fin 8192) (r : Fin 4096)
    (hr : r.val = t.val / 64 * 1024 + p.val) :
    (iblk m c 0 t : Vec Ideal S1024x8192 .bf16) (ix2 p k) = xOf m c (ix3 0 r k) := by
  rw [← V_rows]
  unfold iblk
  rw [View.read_apply]
  show V m c main_v1 _ = V m c main_v1 (ix2 r k)
  congr 1
  funext a
  apply Fin.ext
  match a with
  | ⟨0, _⟩ => show win0_0.index t 0 * 1024 + 1 * p.val = r.val; rw [(idx_facts t).1.1]; omega
  | ⟨1, _⟩ => show win0_0.index t 1 * 8192 + 1 * k.val = k.val; rw [(idx_facts t).1.2]; omega

/-- The block of gate columns at point `t`. -/
theorem iblk_1_apply (c : Dev nD) (t : Fin cfg0.N) (k : Fin 8192) (q : Fin 256) (f : Fin 32768)
    (hf : f.val = t.val % 64 * 256 + q.val) :
    (iblk m c 1 t : Vec Ideal S8192x256 .f32) (ix2 k q) = wOf m c (ix2 k f) := by
  unfold iblk
  rw [View.read_apply]
  show V m c main_arg1 _ = wOf m c (ix2 k f)
  rw [V_main_arg1]
  show wOf m c _ = wOf m c (ix2 k f)
  congr 1
  funext a
  apply Fin.ext
  match a with
  | ⟨0, _⟩ => show win0_1.index t 0 * 8192 + 1 * k.val = k.val; rw [(idx_facts t).2.1.1]; omega
  | ⟨1, _⟩ => show win0_1.index t 1 * 256 + 1 * q.val = f.val; rw [(idx_facts t).2.1.2]; omega

/-- The block of up columns at point `t`. -/
theorem iblk_2_apply (c : Dev nD) (t : Fin cfg0.N) (k : Fin 8192) (q : Fin 256) (f : Fin 32768)
    (hf : f.val = 16384 + (t.val % 64 * 256 + q.val)) :
    (iblk m c 2 t : Vec Ideal S8192x256 .f32) (ix2 k q) = wOf m c (ix2 k f) := by
  unfold iblk
  rw [View.read_apply]
  show V m c main_arg1 _ = wOf m c (ix2 k f)
  rw [V_main_arg1]
  show wOf m c _ = wOf m c (ix2 k f)
  congr 1
  funext a
  apply Fin.ext
  match a with
  | ⟨0, _⟩ => show win0_2.index t 0 * 8192 + 1 * k.val = k.val; rw [(idx_facts t).2.2.1.1]; omega
  | ⟨1, _⟩ => show win0_2.index t 1 * 256 + 1 * q.val = f.val; rw [(idx_facts t).2.2.1.2]; omega

/-- The block of `h` point `t` computes is `h` at its rows and columns. -/
theorem block_apply (c : Dev nD) (t : Fin cfg0.N) (p : Fin 1024) (q : Fin 256) (r : Fin 4096) (f : Fin 16384)
    (hr : r.val = t.val / 64 * 1024 + p.val) (hf : f.val = t.val % 64 * 256 + q.val) :
    k0_pay1 (iblk m c 0 t) (iblk m c 1 t) (iblk m c 2 t) (ix2 p q) = hAt (xOf m c) (wOf m c) r f := by
  refine (pay1_apply _ _ _ p q).trans ?_
  unfold hAt dotAt
  refine congrArg₂ swiglu (Finset.sum_congr rfl fun k _ => ?_) (Finset.sum_congr rfl fun k _ => ?_)
  · exact congrArg₂ (fun a b : EReal => a * b) (iblk_0_apply m c t p k r hr) (iblk_1_apply m c t k q _ hf)
  · exact congrArg₂ (fun a b : EReal => a * b) (iblk_0_apply m c t p k r hr) (iblk_2_apply m c t k q _ (by show 16384 + f.val = _; omega))

/-- The number of grid points. -/
theorem N_eq : cfg0.N = 256 := N_0

/-- The block of `h` each point leaves in its buffer. -/
theorem outs_h (c : Dev nD) (t : Fin cfg0.N) :
    (outsAt0 m c t.val t.isLt).1 = k0_pay1 (iblk m c 0 t) (iblk m c 1 t) (iblk m c 2 t) := by
  by_cases h0 : t.val % 64 = 0
  · rw [outsAt0_A m c t h0 (by omega), out_A_3]
  · rw [outsAt0_B m c t h0 (by omega), out_B_3]

/-- At a row block's first column block the maxima left are the block's. -/
theorem outs_first (c : Dev nD) (t : Fin cfg0.N) (h0 : t.val % 64 = 0) :
    (outsAt0 m c t.val t.isLt).2 = k0_pay2 (iblk m c 0 t) (iblk m c 1 t) (iblk m c 2 t) := by
  rw [outsAt0_A m c t h0 (by omega), out_A_4]

/-- At a later one they are the greater of those before and the block's. -/
theorem outs_later (c : Dev nD) (t : Fin cfg0.N) (h0 : ¬t.val % 64 = 0) :
    (outsAt0 m c t.val t.isLt).2 = k0_pay3 (iblk m c 0 t) (iblk m c 1 t) (iblk m c 2 t)
      (outsAt0 m c (t.val - 1) (Nat.lt_of_le_of_lt (Nat.sub_le _ _) t.isLt)).2 := by
  rw [outsAt0_B m c t h0 (by omega), out_B_4]

/-- The maxima left at a row block's first column block: over its 256 columns. -/
theorem amax_first (c : Dev nD) (t : Fin cfg0.N) (h0 : t.val % 64 = 0) (p : Fin 1024) (u : Fin 1) (r : Fin 4096)
    (hr : r.val = t.val / 64 * 1024 + p.val) :
    (outsAt0 m c t.val t.isLt).2 (ix2 p u) = partAt (xOf m c) (wOf m c) r ((t.val % 64 + 1) * 256) := by
  have hn : (t.val % 64 + 1) * 256 = 256 := by omega
  rw [outs_first m c t h0, pay2_apply, hn]
  refine partAt_one (xOf m c) (wOf m c) r _ fun q f hf => ?_
  rw [block_apply m c t p q r f hr (by omega)]

/-- The maxima left at a later column block, from those left before it. -/
theorem amax_later (c : Dev nD) (t : Fin cfg0.N) (h0 : ¬t.val % 64 = 0) (p : Fin 1024) (u : Fin 1) (r : Fin 4096)
    (hr : r.val = t.val / 64 * 1024 + p.val)
    (hp : (outsAt0 m c (t.val - 1) (Nat.lt_of_le_of_lt (Nat.sub_le _ _) t.isLt)).2 (ix2 p u) = partAt (xOf m c) (wOf m c) r (t.val % 64 * 256)) :
    (outsAt0 m c t.val t.isLt).2 (ix2 p u) = partAt (xOf m c) (wOf m c) r ((t.val % 64 + 1) * 256) := by
  rw [outs_later m c t h0, pay3_apply, pay2_apply, hp]
  refine partAt_succ (xOf m c) (wOf m c) r (t.val % 64) (by omega) _ fun q f hf => ?_
  rw [block_apply m c t p q r f hr hf]

/-- The maxima each point leaves: over the columns of its row block's column blocks so far. -/
theorem outs_amax (c : Dev nD) (p : Fin 1024) (u : Fin 1) : ∀ (n : Nat) (hn : n < cfg0.N) (r : Fin 4096), r.val = n / 64 * 1024 + p.val →
    (outsAt0 m c n hn).2 (ix2 p u) = partAt (xOf m c) (wOf m c) r ((n % 64 + 1) * 256) := by
  intro n
  induction n with
  | zero => exact fun hn r hr => amax_first m c ⟨0, hn⟩ (by rfl) p u r hr
  | succ n ih =>
    intro hn r hr
    by_cases h0 : (n + 1) % 64 = 0
    · exact amax_first m c ⟨n + 1, hn⟩ h0 p u r hr
    · refine amax_later m c ⟨n + 1, hn⟩ h0 p u r hr ?_
      have hk : (n + 1) % 64 = n % 64 + 1 := by omega
      have hp := ih (Nat.lt_of_succ_lt hn) r (by omega)
      rw [← hk] at hp
      exact hp

/-- The maxima left at a row block's last column block: over the whole rows. -/
theorem amax_last (c : Dev nD) (t : Fin cfg0.N) (h63 : t.val % 64 = 63) (p : Fin 1024) (u : Fin 1) (r : Fin 4096)
    (hr : r.val = t.val / 64 * 1024 + p.val) : (outsAt0 m c t.val t.isLt).2 (ix2 p u) = amaxAt (xOf m c) (wOf m c) r := by
  have hn : (t.val % 64 + 1) * 256 = 16384 := by omega
  rw [outs_amax m c p u t.val t.isLt r hr, hn, partAt_all]

attribute [local irreducible] Cert.ProjSpec.amaxAt

/-- `h` as contents of the first result. -/
abbrev hOf (c : Dev nD) : Buf (Elt Ideal) ((c : Thread nD τ).loc main_v2_0) := hArr (xOf m c) (wOf m c)
/-- The row maxima as contents of the second result. -/
abbrev amaxOf (c : Dev nD) : Buf (Elt Ideal) ((c : Thread nD τ).loc main_v2_1) := amaxArr (xOf m c) (wOf m c)

/-- Every point writes back its block of `h`. -/
theorem flushed_h (c : Dev nD) (t : Fin cfg0.N) : (dats m 0 c).flushed 3 t = (win0_3.blk t).view.read (Elt Ideal) (hOf m c) := by
  show (cfg0.win 3).cut (grid0.coords t) ((dats m 0 c).after 3 t) = _
  rw [after0_3, outs_h]
  funext y
  rw [View.read_apply]
  have e0 : ((win0_3.blk t).view.emb y 0 : Nat) = t.val / 64 * 1024 + (y 0).val := by
    show win0_3.index t 0 * 1024 + 1 * (y 0).val = _; rw [(idx_facts t).2.2.2.1.1]; omega
  have e1 : ((win0_3.blk t).view.emb y 1 : Nat) = t.val % 64 * 256 + (y 1).val := by
    show win0_3.index t 1 * 256 + 1 * (y 1).val = _; rw [(idx_facts t).2.2.2.1.2]; omega
  have hy : (y : S1024x256.Idx) = ix2 (y 0) (y 1) := by funext a; fin_cases a <;> rfl
  have hb := block_apply m c t (y 0) (y 1) ((win0_3.blk t).view.emb y 0) ((win0_3.blk t).view.emb y 1) e0 e1
  refine Eq.trans ?_ hb
  exact congrArg _ hy

/-- A row block's last point writes back its row maxima. -/
theorem flushed_amax (c : Dev nD) (t : Fin cfg0.N) (hf : (cfg0.win 4).flush t = true) :
    (dats m 0 c).flushed 4 t = (win0_4.blk t).view.read (Elt Ideal) (amaxOf m c) := by
  have h63 : t.val % 64 = 63 := (flush0_4 t).mp hf
  show (cfg0.win 4).cut (grid0.coords t) ((dats m 0 c).after 4 t) = _
  rw [after0_4]
  funext y
  rw [View.read_apply]
  have e0 : ((win0_4.blk t).view.emb y 0 : Nat) = t.val / 64 * 1024 + (y 0).val := by
    show win0_4.index t 0 * 1024 + 1 * (y 0).val = _; rw [(idx_facts t).2.2.2.2.1]; omega
  have hy : (y : S1024x1.Idx) = ix2 (y 0) (y 1) := by funext a; fin_cases a <;> rfl
  have hb := amax_last m c t h63 (y 0) (y 1) ((win0_4.blk t).view.emb y 0) e0
  refine Eq.trans ?_ hb
  exact congrArg _ hy

/-- The first result after the run: `h`. -/
theorem final_h (c : Dev nD) : (dats m 0 c).arrAt 3 cfg0.N = hOf m c := by
  refine (dats m 0 c).arrAt_eq_of_cover 3 (hOf m c) (fun t _ => flushed_h m c t) fun i => ?_
  have hN : cfg0.N = 256 := N_0
  have h0 : (i 0 : Nat) < 4096 := (i 0).isLt
  have h1 : (i 1 : Nat) < 16384 := (i 1).isLt
  have ht : (i 0 : Nat) / 1024 * 64 + (i 1 : Nat) / 256 < cfg0.N := by omega
  refine ⟨⟨(i 0 : Nat) / 1024 * 64 + (i 1 : Nat) / 256, ht⟩, flush0_3 _, ?_⟩
  generalize hq : (⟨(i 0 : Nat) / 1024 * 64 + (i 1 : Nat) / 256, ht⟩ : Fin cfg0.N) = t
  have hv : t.val = (i 0 : Nat) / 1024 * 64 + (i 1 : Nat) / 256 := by rw [← hq]
  show i ∈ ((View.whole main_v2_0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [(idx_facts t).2.2.2.1.1]; omega
  | ⟨1, _⟩ => show win0_3.index t 1 * 256 ≤ (i 1 : Nat) ∧ (i 1 : Nat) < win0_3.index t 1 * 256 + 256
              rw [(idx_facts t).2.2.2.1.2]; omega

/-- The second result after the run: the row maxima. -/
theorem final_amax (c : Dev nD) : (dats m 0 c).arrAt 4 cfg0.N = amaxOf m c := by
  refine (dats m 0 c).arrAt_eq_of_cover 4 (amaxOf m c) (fun t hf => flushed_amax m c t hf) fun i => ?_
  have hN : cfg0.N = 256 := N_0
  have h0 : (i 0 : Nat) < 4096 := (i 0).isLt
  have h1 : (i 1 : Nat) < 1 := (i 1).isLt
  have ht : (i 0 : Nat) / 1024 * 64 + 63 < cfg0.N := by omega
  refine ⟨⟨(i 0 : Nat) / 1024 * 64 + 63, ht⟩, (flush0_4 _).mpr (by show ((i 0 : Nat) / 1024 * 64 + 63) % 64 = 63; omega), ?_⟩
  generalize hq : (⟨(i 0 : Nat) / 1024 * 64 + 63, ht⟩ : Fin cfg0.N) = t
  have hv : t.val = (i 0 : Nat) / 1024 * 64 + 63 := by rw [← hq]
  show i ∈ ((View.whole main_v2_1).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [(idx_facts t).2.2.2.2.1]; omega
  | ⟨1, _⟩ => show win0_4.index t 1 * 1 ≤ (i 1 : Nat) ∧ (i 1 : Nat) < win0_4.index t 1 * 1 + 1
              rw [(idx_facts t).2.2.2.2.2]; omega

/-- The kernel's run, read: `h` and the row maxima of the arguments, which are unchanged. -/
theorem run_arrays : θ_run defs (onTc (τ := τ) (main (F := Ideal))) ⟨m, fun _ => 0, ρ⟩ fun r => ∀ c : Dev nD,
      r.2.mem ((c : Thread nD τ).loc main_v2_0) = hOf m c
      ∧ r.2.mem ((c : Thread nD τ).loc main_v2_1) = amaxOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_h m c), (h c).2.1.trans (final_amax m c), (h c).2.2⟩)
    (Cert.ProjIdeal.Value.run_blocks m ρ)

end Cert.ProjIdeal.Blocks

/-! ## The claim -/

namespace Cert.ProjClaim

attribute [local instance] Cert.ProjIdeal.Gen.facts Cert.RefProjIdeal.Gen.facts

/-- Over the reals the projecting call's `h` and row maxima are the reference's. -/
theorem algebraic : Cert.algebraic_ProjIdeal_RefProjIdeal := by
  intro m g m' g' _ hm
  refine ⟨fun c => Cert.ProjIdeal.Blocks.hOf m c, fun c => Cert.ProjIdeal.Blocks.amaxOf m c, Cert.ProjIdeal.Blocks.run_arrays m g, ?_⟩
  refine (θ_run Cert.RefProjIdeal.defs _ _).mono (fun r h c => ?_) (Cert.RefProjIdeal.Value.run_arrays m' g')
  obtain ⟨h1, h2, h3, h4⟩ := h c
  obtain ⟨e1, e2⟩ := hm c
  refine ⟨h1.trans ?_, h2.trans ?_, h3, h4⟩
  · exact congrArg₂ Cert.ProjSpec.hArr e1 e2
  · exact congrArg₂ Cert.ProjSpec.amaxArr e1 e2

end Cert.ProjClaim

end
-- ==== Proof.QuantScalar.lean ====
/- The quantiser of one row, read at an index: the kernel's payloads and the reference's payloads are the same function of one
   element of `h` and of the row's maximum, although one side holds 128 rows and the other 4096. -/
module

public import proofs.«01_k».proof.Proof.Gen.Quant.Frame
public import proofs.«01_k».proof.Proof.Gen.RefQuant.Frame
public import Idealize.ShloMosaic.Lib.Pipeline.Value

@[expose] public section

set_option maxRecDepth 16384

noncomputable section

namespace Cert.QuantScalar

open Idealize.ShloMosaic Idealize.ShloMosaic.TcCoe Idealize.SL.Sem

variable {F : FTy → Type} [BitOps F]

/-- The exponent of a row's maximum: equal maxima, equal exponents. -/
theorem exponent_eq (x : Vec F Cert.Quant.S128x1 .f32) (y : Vec F Cert.RefQuant.S4096x1 .f32)
    (i : Cert.Quant.S128x1.Idx) (j : Cert.RefQuant.S4096x1.Idx) (h : x i = y j) :
    Cert.Quant.Gen.k0_pay2 x i = Cert.RefQuant.Gen.k0_pay2 y j := by
  simp only [Cert.Quant.Gen.k0_pay2, Cert.RefQuant.Gen.k0_pay2, select, cmpf, cmpi, andi, ori, subi, shrui, broadcast,
    bitcastToInt, bitcastToFloat, mulf, h]

/-- The scale: equal exponents, equal scales. -/
theorem scale_eq (x : IVec Cert.Quant.S128x1 32) (y : IVec Cert.RefQuant.S4096x1 32)
    (i : Cert.Quant.S128x1.Idx) (j : Cert.RefQuant.S4096x1.Idx) (h : x i = y j) :
    Cert.Quant.Gen.k0_pay4 x (Cert.Quant.Gen.k0_pay3 (F := F)) i
      = Cert.RefQuant.Gen.k0_pay5 y (Cert.RefQuant.Gen.k0_pay4 (F := F)) j := by
  simp only [Cert.Quant.Gen.k0_pay4, Cert.Quant.Gen.k0_pay3, Cert.RefQuant.Gen.k0_pay5, Cert.RefQuant.Gen.k0_pay4,
    Cert.RefQuant.Gen.k0_pay3, select, cmpi, andi, ori, addi, subi, shrui, shli, maxsi, minsi, broadcast, bitcastToInt,
    bitcastToFloat, h]

/-- The inverse scale's bits: equal exponents, equal inverse scales. -/
theorem inverse_eq (x : IVec Cert.Quant.S128x1 32) (y : IVec Cert.RefQuant.S4096x1 32)
    (i : Cert.Quant.S128x1.Idx) (j : Cert.RefQuant.S4096x1.Idx) (h : x i = y j) :
    (bitcastToFloat .f32 (Cert.Quant.Gen.k0_pay5 x (Cert.Quant.Gen.k0_pay3 (F := F))) : FVec F Cert.Quant.S128x1 .f32) i
      = Cert.RefQuant.Gen.k0_pay6 y (Cert.RefQuant.Gen.k0_pay3 (F := F)) j := by
  simp only [Cert.Quant.Gen.k0_pay5, Cert.Quant.Gen.k0_pay3, Cert.RefQuant.Gen.k0_pay6,
    Cert.RefQuant.Gen.k0_pay3, select, cmpi, andi, ori, addi, subi, shrui, shli, maxsi, minsi, broadcast, bitcastToInt,
    bitcastToFloat, h]

/-- A code: equal elements of `h` and equal row maxima, equal codes. -/
theorem code_eq (x : Vec F Cert.Quant.S128x16384 .f32) (xm : Vec F Cert.Quant.S128x1 .f32)
    (y : Vec F Cert.RefQuant.S4096x16384 .f32) (ym : Vec F Cert.RefQuant.S4096x1 .f32)
    (i : Cert.Quant.S128x16384.Idx) (j : Cert.RefQuant.S4096x16384.Idx) (h : x i = y j)
    (hm : ∀ k l, (k 0 : Nat) = i 0 → (l 0 : Nat) = j 0 → xm k = ym l) :
    Cert.Quant.Gen.k0_pay1 (Cert.Quant.Gen.k0_pay5 (Cert.Quant.Gen.k0_pay2 xm) (Cert.Quant.Gen.k0_pay3 (F := F))) x i
      = Cert.RefQuant.Gen.k0_pay1 (Cert.RefQuant.Gen.k0_pay6 (Cert.RefQuant.Gen.k0_pay2 ym) (Cert.RefQuant.Gen.k0_pay3 (F := F))) y j := by
  simp only [Cert.Quant.Gen.k0_pay1, Cert.RefQuant.Gen.k0_pay1, truncf, minimumf, maximumf, mulf, broadcast, broadcastTo, h]
  rw [inverse_eq _ _ _ _ (exponent_eq _ _ _ _ (hm _ _ ?_ ?_))]
  all_goals rfl

end Cert.QuantScalar
end
-- ==== Proof.QuantValue.lean ====
/- The second call's claim: the pipelined quantiser's two result arrays are, bit for bit, the reference's. The reference runs the
   quantiser's lines once over whole arrays; the kernel runs them on 32 blocks of 128 rows. Block `t` of an array is its rows
   `128 t … 128 t + 127`, all columns, so each row is quantised from the same maximum on both sides. -/
module

public import proofs.«01_k».proof.Defs
public import proofs.«01_k».proof.Proof.QuantScalar

@[expose] public section

set_option maxRecDepth 16384

noncomputable section

open Idealize.ShloMosaic Idealize.ShloMosaic.TcCoe Idealize.SL.Sem
open Idealize.ShloMosaic.Pipeline (Dat)

/-! ## The reference: one point, whole arrays -/

namespace Cert.RefQuant.Whole

open Cert.RefQuant Cert.RefQuant.Gen

variable {F : FTy → Type} [BitOps F]
variable (m : (ℓ : Loc nD τ sig) → Buf (Elt F) ℓ) (ρ : Dev nD → PrngReg)

theorem hz : (![0, 0] : Fin 2 → Nat) = fun _ => 0 := funext fun a => by fin_cases a <;> rfl

/-- The codes the reference's one point computes from `h` and the row maxima. -/
abbrev codes (h : Vec F S4096x16384 .f32) (a : Vec F S4096x1 .f32) : Vec F S4096x16384 .fp8e4m3 :=
  k0_pay1 (k0_pay6 (k0_pay2 a) (k0_pay3 (F := F))) h
/-- The scales it computes. -/
abbrev scale (a : Vec F S4096x1 .f32) : Vec F S4096x1 .f32 :=
  k0_pay5 (F := F) (k0_pay2 a) (k0_pay4 (F := F))

/-- The one point's block of each window is the whole array: block index zero on every axis. -/
theorem idx0 : ∀ (t : Fin cfg0.N) (a : Fin 2), win0_0.index t a = 0 ∧ win0_1.index t a = 0 ∧ win0_2.index t a = 0 ∧ win0_3.index t a = 0 :=
  (by decide +kernel : ∀ (t : Fin grid0.N) (a : Fin 2), win0_0.index t a = 0 ∧ win0_1.index t a = 0 ∧ win0_2.index t a = 0 ∧ win0_3.index t a = 0)

/-- The block of `h` at the one point is `h`. -/
theorem iblk_0 (c : Dev nD) (t : Fin cfg0.N) : (iblk m c 0 t : Vec F S4096x16384 .f32) = m ((c : Thread nD τ).loc main_arg0) := by
  funext y
  unfold iblk
  rw [View.read_apply]
  show m (c.tc.loc main_arg0) _ = m (c.tc.loc main_arg0) _
  congr 1
  funext a
  apply Fin.ext
  match a with
  | ⟨0, _⟩ => show win0_0.index t 0 * 4096 + 1 * (y 0).val = (y 0).val; rw [(idx0 t 0).1]; omega
  | ⟨1, _⟩ => show win0_0.index t 1 * 16384 + 1 * (y 1).val = (y 1).val; rw [(idx0 t 1).1]; omega

/-- The block of the row maxima at the one point is the row maxima. -/
theorem iblk_1 (c : Dev nD) (t : Fin cfg0.N) : (iblk m c 1 t : Vec F S4096x1 .f32) = m ((c : Thread nD τ).loc main_arg1) := by
  funext y
  unfold iblk
  rw [View.read_apply]
  show m (c.tc.loc main_arg1) _ = m (c.tc.loc main_arg1) _
  congr 1
  funext a
  apply Fin.ext
  match a with
  | ⟨0, _⟩ => show win0_1.index t 0 * 4096 + 1 * (y 0).val = (y 0).val; rw [(idx0 t 0).2.1]; omega
  | ⟨1, _⟩ => show win0_1.index t 1 * 1 + 1 * (y 1).val = (y 1).val; rw [(idx0 t 1).2.1]; omega

/-- What the body leaves in the codes' buffer. -/
theorem out_codes (x0 : Vec F S4096x16384 .f32) (x1 : Vec F S4096x1 .f32) : out0_2 x0 x1 = codes x0 x1 := by
  unfold out0_2 k0_pay7
  rw [View.canon_unit_zero hz, View.ld_unit_zero hz, View.ld_unit_zero hz]

/-- What the body leaves in the scales' buffer. -/
theorem out_scale (x0 : Vec F S4096x16384 .f32) (x1 : Vec F S4096x1 .f32) : out0_3 x0 x1 = scale x1 := by
  unfold out0_3 k0_pay7
  rw [View.canon_unit_zero hz, View.ld_unit_zero hz]

/-- The codes of the argument arrays, as contents of the first result. -/
abbrev codesOf (c : Dev nD) : Buf (Elt F) ((c : Thread nD τ).loc main_v0_0) :=
  codes (m ((c : Thread nD τ).loc main_arg0)) (m ((c : Thread nD τ).loc main_arg1))
/-- The scales of the argument arrays, as contents of the second result. -/
abbrev scaleOf (c : Dev nD) : Buf (Elt F) ((c : Thread nD τ).loc main_v0_1) :=
  scale (m ((c : Thread nD τ).loc main_arg1))

/-- The first result after the run: the codes of the argument arrays. -/
theorem final_codes (c : Dev nD) : (dats m 0 c).arrAt 2 cfg0.N = codesOf m c := by
  refine (dats m 0 c).arrAt_eq_of_cover 2 (codesOf m c) (fun t _ => ?_) fun i => ?_
  · show (cfg0.win 2).cut (grid0.coords t) ((dats m 0 c).after 2 t) = _
    rw [after0_2, out_codes, iblk_0, iblk_1]
    have hz' : (fun a => win0_2.index t a * main_v0_0.ty.shape.size a) = fun _ => 0 :=
      funext fun a => by fin_cases a <;> simp only [(idx0 t _).2.2.1, Nat.zero_mul]
    exact (Memref.read_access_unit_zero (Elt F) main_v0_0 hz' (fun a => by rw [congrFun hz' a]; simp) (codesOf m c)).symm
  · have hN : cfg0.N = 1 := N_0
    have ht : 0 < cfg0.N := by omega
    refine ⟨⟨0, ht⟩, flush0_2 _, ?_⟩
    show i ∈ ((View.whole main_v0_0).slice (win0_2.rect ⟨0, ht⟩)).set
    rw [View.set_slice_whole, Rect.mem_set_unit]
    intro a
    have h0 : (i 0 : Nat) < 4096 := (i 0).isLt
    have h1 : (i 1 : Nat) < 16384 := (i 1).isLt
    match a with
    | ⟨0, _⟩ => show win0_2.index ⟨0, ht⟩ 0 * 4096 ≤ (i 0 : Nat) ∧ (i 0 : Nat) < win0_2.index ⟨0, ht⟩ 0 * 4096 + 4096
                rw [(idx0 _ 0).2.2.1]; omega
    | ⟨1, _⟩ => show win0_2.index ⟨0, ht⟩ 1 * 16384 ≤ (i 1 : Nat) ∧ (i 1 : Nat) < win0_2.index ⟨0, ht⟩ 1 * 16384 + 16384
                rw [(idx0 _ 1).2.2.1]; omega

/-- The second result after the run: the scales of the argument arrays. -/
theorem final_scale (c : Dev nD) : (dats m 0 c).arrAt 3 cfg0.N = scaleOf m c := by
  refine (dats m 0 c).arrAt_eq_of_cover 3 (scaleOf m c) (fun t _ => ?_) fun i => ?_
  · show (cfg0.win 3).cut (grid0.coords t) ((dats m 0 c).after 3 t) = _
    rw [after0_3, out_scale, iblk_1]
    have hz' : (fun a => win0_3.index t a * main_v0_1.ty.shape.size a) = fun _ => 0 :=
      funext fun a => by fin_cases a <;> simp only [(idx0 t _).2.2.2, Nat.zero_mul]
    exact (Memref.read_access_unit_zero (Elt F) main_v0_1 hz' (fun a => by rw [congrFun hz' a]; simp) (scaleOf m c)).symm
  · have hN : cfg0.N = 1 := N_0
    have ht : 0 < cfg0.N := by omega
    refine ⟨⟨0, ht⟩, flush0_3 _, ?_⟩
    show i ∈ ((View.whole main_v0_1).slice (win0_3.rect ⟨0, ht⟩)).set
    rw [View.set_slice_whole, Rect.mem_set_unit]
    intro a
    have h0 : (i 0 : Nat) < 4096 := (i 0).isLt
    have h1 : (i 1 : Nat) < 1 := (i 1).isLt
    match a with
    | ⟨0, _⟩ => show win0_3.index ⟨0, ht⟩ 0 * 4096 ≤ (i 0 : Nat) ∧ (i 0 : Nat) < win0_3.index ⟨0, ht⟩ 0 * 4096 + 4096
                rw [(idx0 _ 0).2.2.2]; omega
    | ⟨1, _⟩ => show win0_3.index ⟨0, ht⟩ 1 * 1 ≤ (i 1 : Nat) ∧ (i 1 : Nat) < win0_3.index ⟨0, ht⟩ 1 * 1 + 1
                rw [(idx0 _ 1).2.2.2]; omega

/-- The reference's run, read: the codes and the scales of the arguments, which are unchanged. -/
theorem run : θ_run defs (onTc (τ := τ) (main (F := F))) ⟨m, fun _ => 0, ρ⟩ fun r => ∀ c : Dev nD,
      r.2.mem ((c : Thread nD τ).loc main_v0_0) = codesOf m c
      ∧ r.2.mem ((c : Thread nD τ).loc main_v0_1) = scaleOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_codes m c), ((h c).1 3).trans (final_scale m c),
      ((h c).1 0).trans ((dats m 0 c).arrAt_in 0 rfl _), ((h c).1 1).trans ((dats m 0 c).arrAt_in 1 rfl _)⟩)
    (run_main m ρ)

end Cert.RefQuant.Whole

/-! ## The kernel: 32 blocks of 128 rows -/

namespace Cert.Quant.Tiled

open Cert.Quant Cert.Quant.Gen

variable {F : FTy → Type} [BitOps F]
variable (m : (ℓ : Loc nD τ sig) → Buf (Elt F) ℓ) (ρ : Dev nD → PrngReg)

theorem hz : (![0, 0] : Fin 2 → Nat) = fun _ => 0 := funext fun a => by fin_cases a <;> rfl

/-- The codes of the argument arrays as the reference states them, as contents of the kernel's first result. -/
abbrev codesOf (c : Dev nD) : Buf (Elt F) ((c : Thread nD τ).loc main_v0_0) :=
  Cert.RefQuant.Whole.codes (m ((c : Thread nD τ).loc main_arg0)) (m ((c : Thread nD τ).loc main_arg1))
/-- The scales of the argument arrays as the reference states them, as contents of the kernel's second result. -/
abbrev scaleOf (c : Dev nD) : Buf (Elt F) ((c : Thread nD τ).loc main_v0_1) :=
  Cert.RefQuant.Whole.scale (m ((c : Thread nD τ).loc main_arg1))

/-- Every window moves down one block of rows per point and takes all columns. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0))

/-- The block of `h` at point `t`, at an index: `h` at row `128 t + y`, wherever that index is written down. -/
theorem iblk_0_apply (c : Dev nD) (t : Fin cfg0.N) (y : S128x16384.Idx) (i : S4096x16384.Idx)
    (h0 : (i 0 : Nat) = t.val * 128 + (y 0).val) (h1 : (i 1 : Nat) = (y 1).val) :
    (iblk m c 0 t : Vec F S128x16384 .f32) y = m ((c : Thread nD τ).loc main_arg0) i := by
  unfold iblk
  rw [View.read_apply]
  show m (c.tc.loc main_arg0) _ = m (c.tc.loc main_arg0) i
  congr 1
  funext a
  apply Fin.ext
  match a with
  | ⟨0, _⟩ => show win0_0.index t 0 * 128 + 1 * (y 0).val = (i 0).val; rw [(idx_facts t).1.1]; omega
  | ⟨1, _⟩ => show win0_0.index t 1 * 16384 + 1 * (y 1).val = (i 1).val; rw [(idx_facts t).1.2]; omega

/-- The block of the row maxima at point `t`, at an index. -/
theorem iblk_1_apply (c : Dev nD) (t : Fin cfg0.N) (y : S128x1.Idx) (i : S4096x1.Idx)
    (h0 : (i 0 : Nat) = t.val * 128 + (y 0).val) :
    (iblk m c 1 t : Vec F S128x1 .f32) y = m ((c : Thread nD τ).loc main_arg1) i := by
  unfold iblk
  rw [View.read_apply]
  show m (c.tc.loc main_arg1) _ = m (c.tc.loc main_arg1) i
  congr 1
  funext a
  apply Fin.ext
  have hy : (y 1).val < 1 := (y 1).isLt
  have hi : (i 1).val < 1 := (i 1).isLt
  match a with
  | ⟨0, _⟩ => show win0_1.index t 0 * 128 + 1 * (y 0).val = (i 0).val; rw [(idx_facts t).2.1.1]; omega
  | ⟨1, _⟩ => show win0_1.index t 1 * 1 + 1 * (y 1).val = (i 1).val; rw [(idx_facts t).2.1.2]; omega

/-- What the body leaves in the codes' buffer, from its input blocks. -/
theorem out_codes (x0 : Vec F S128x16384 .f32) (x1 : Vec F S128x1 .f32) :
    out0_2 x0 x1 = k0_pay1 (k0_pay5 (k0_pay2 x1) (k0_pay3 (F := F))) x0 := by
  unfold out0_2 k0_pay6 k0_pay7
  rw [View.canon_unit_zero hz, View.ld_unit_zero hz, View.ld_unit_zero hz]

/-- What the body leaves in the scales' buffer, from its input blocks. -/
theorem out_scale (x0 : Vec F S128x16384 .f32) (x1 : Vec F S128x1 .f32) :
    out0_3 x0 x1 = k0_pay4 (k0_pay2 x1) (k0_pay3 (F := F)) := by
  unfold out0_3 k0_pay6 k0_pay7
  rw [View.canon_unit_zero hz, View.ld_unit_zero hz]

/-- The codes point `t` writes back are its rows of the whole array's codes. -/
theorem flushed_codes (c : Dev nD) (t : Fin cfg0.N) :
    (dats m 0 c).flushed 2 t = (win0_2.blk t).view.read (Elt F) (codesOf m c) := by
  show (cfg0.win 2).cut (grid0.coords t) ((dats m 0 c).after 2 t) = _
  rw [after0_2, out_codes]
  funext y
  rw [View.read_apply]
  have e0 : ((win0_2.blk t).view.emb y 0 : Nat) = t.val * 128 + (y 0).val := by
    show win0_2.index t 0 * 128 + 1 * (y 0).val = _; rw [(idx_facts t).2.2.1.1]; omega
  have e1 : ((win0_2.blk t).view.emb y 1 : Nat) = (y 1).val := by
    show win0_2.index t 1 * 16384 + 1 * (y 1).val = _; rw [(idx_facts t).2.2.1.2]; omega
  exact Cert.QuantScalar.code_eq _ _ _ _ y ((win0_2.blk t).view.emb y) (iblk_0_apply m c t y _ e0 e1)
    fun k l hk hl => iblk_1_apply m c t k l (by rw [hl, hk]; exact e0)

/-- The scales point `t` writes back are its rows of the whole array's scales. -/
theorem flushed_scale (c : Dev nD) (t : Fin cfg0.N) :
    (dats m 0 c).flushed 3 t = (win0_3.blk t).view.read (Elt F) (scaleOf m c) := by
  show (cfg0.win 3).cut (grid0.coords t) ((dats m 0 c).after 3 t) = _
  rw [after0_3, out_scale]
  funext y
  rw [View.read_apply]
  have e0 : ((win0_3.blk t).view.emb y 0 : Nat) = t.val * 128 + (y 0).val := by
    show win0_3.index t 0 * 128 + 1 * (y 0).val = _; rw [(idx_facts t).2.2.2.1]; omega
  exact Cert.QuantScalar.scale_eq _ _ y ((win0_3.blk t).view.emb y)
    (Cert.QuantScalar.exponent_eq _ _ _ _ (iblk_1_apply m c t y _ e0))

/-- The first result after the run: the codes of the argument arrays. -/
theorem final_codes (c : Dev nD) : (dats m 0 c).arrAt 2 cfg0.N = codesOf m c := by
  refine (dats m 0 c).arrAt_eq_of_cover 2 (codesOf m c) (fun t _ => flushed_codes m c t) fun i => ?_
  have hN : cfg0.N = 32 := N_0
  have h0 : (i 0 : Nat) < 4096 := (i 0).isLt
  have h1 : (i 1 : Nat) < 16384 := (i 1).isLt
  have ht : (i 0 : Nat) / 128 < cfg0.N := by omega
  refine ⟨⟨(i 0 : Nat) / 128, ht⟩, flush0_2 _, ?_⟩
  generalize hq : (⟨(i 0 : Nat) / 128, ht⟩ : Fin cfg0.N) = t
  have hv : t.val = (i 0 : Nat) / 128 := by rw [← hq]
  show i ∈ ((View.whole main_v0_0).slice (win0_2.rect t)).set
  rw [View.set_slice_whole, Rect.mem_set_unit]
  intro a
  match a with
  | ⟨0, _⟩ => show win0_2.index t 0 * 128 ≤ (i 0 : Nat) ∧ (i 0 : Nat) < win0_2.index t 0 * 128 + 128
              rw [(idx_facts t).2.2.1.1]; omega
  | ⟨1, _⟩ => show win0_2.index t 1 * 16384 ≤ (i 1 : Nat) ∧ (i 1 : Nat) < win0_2.index t 1 * 16384 + 16384
              rw [(idx_facts t).2.2.1.2]; omega

/-- The second result after the run: the scales of the argument arrays. -/
theorem final_scale (c : Dev nD) : (dats m 0 c).arrAt 3 cfg0.N = scaleOf m c := by
  refine (dats m 0 c).arrAt_eq_of_cover 3 (scaleOf m c) (fun t _ => flushed_scale m c t) fun i => ?_
  have hN : cfg0.N = 32 := N_0
  have h0 : (i 0 : Nat) < 4096 := (i 0).isLt
  have h1 : (i 1 : Nat) < 1 := (i 1).isLt
  have ht : (i 0 : Nat) / 128 < cfg0.N := by omega
  refine ⟨⟨(i 0 : Nat) / 128, ht⟩, flush0_3 _, ?_⟩
  generalize hq : (⟨(i 0 : Nat) / 128, ht⟩ : Fin cfg0.N) = t
  have hv : t.val = (i 0 : Nat) / 128 := by rw [← hq]
  show i ∈ ((View.whole main_v0_1).slice (win0_3.rect t)).set
  rw [View.set_slice_whole, Rect.mem_set_unit]
  intro a
  match a with
  | ⟨0, _⟩ => show win0_3.index t 0 * 128 ≤ (i 0 : Nat) ∧ (i 0 : Nat) < win0_3.index t 0 * 128 + 128
              rw [(idx_facts t).2.2.2.1]; omega
  | ⟨1, _⟩ => show win0_3.index t 1 * 1 ≤ (i 1 : Nat) ∧ (i 1 : Nat) < win0_3.index t 1 * 1 + 1
              rw [(idx_facts t).2.2.2.2]; omega

/-- The kernel's run, read: the codes and the scales of the arguments, which are unchanged. -/
theorem run : θ_run defs (onTc (τ := τ) (main (F := F))) ⟨m, fun _ => 0, ρ⟩ fun r => ∀ c : Dev nD,
      r.2.mem ((c : Thread nD τ).loc main_v0_0) = codesOf m c
      ∧ r.2.mem ((c : Thread nD τ).loc main_v0_1) = scaleOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_codes m c), ((h c).1 3).trans (final_scale m c),
      ((h c).1 0).trans ((dats m 0 c).arrAt_in 0 rfl _), ((h c).1 1).trans ((dats m 0 c).arrAt_in 1 rfl _)⟩)
    (run_main m ρ)

end Cert.Quant.Tiled

/-! ## The claim -/

namespace Cert.QuantClaim

attribute [local instance] Cert.Quant.Gen.facts Cert.RefQuant.Gen.facts

/-- The quantising call's codes and scales are the reference's, bit for bit. -/
theorem bitexact : Cert.bitexact_Quant_RefQuant := by
  intro m g m' g' _ hm
  refine ⟨fun c => Cert.Quant.Tiled.codesOf m c, fun c => Cert.Quant.Tiled.scaleOf m c, Cert.Quant.Tiled.run m g, ?_⟩
  refine (θ_run Cert.RefQuant.defs _ _).mono (fun r h c => ?_) (Cert.RefQuant.Whole.run m' g')
  obtain ⟨h1, h2, h3, h4⟩ := h c
  obtain ⟨e1, e2⟩ := hm c
  refine ⟨h1.trans ?_, h2.trans ?_, h3, h4⟩
  · exact congrArg₂ Cert.RefQuant.Whole.codes e1 e2
  · exact congrArg Cert.RefQuant.Whole.scale e2

end Cert.QuantClaim

end
-- ==== Proof.WholeRegion0.lean ====
/-
  The first call of the whole program (both products, SwiGLU, row maxima), entered from any contents `V` of the
  unscoped buffers: what its body stores in each case, what its outputs hold point by point, the proof data of its
  pipeline and the body obligation.
-/
module

public import proofs.«01_k».proof.Proof.Gen.Whole.Skeleton
public import proofs.«01_k».proof.Proof.Gen.Whole.Launch
public import proofs.«01_k».proof.Proof.Gen.Whole.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.WordCmp
public import Idealize.ShloMosaic.Lib.Tactic

@[expose] public section

set_option maxRecDepth 16384

noncomputable section

namespace Cert.Whole.R0

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 64) — by arithmetic of the point. -/
theorem hcond0_0 : ∀ t : Fin cfg0.N, cond0_0 (grid0.coords t) ↔ t.val % 64 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 64 :=
  (by decide +kernel : ∀ t : Fin grid0.N, cond0_1 (grid0.coords t) ↔ 1 ≤ t.val % 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000000000000000800000000000000080000000000000008000000000000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 3, through which its contents are stated (`View.read_writes_of_cover`: the
    choice does not matter). -/
abbrev VO0_3 : View sig .tc .vmem S1024x256 .f32 := (Memref.whole cc0_stg3_0 : Memref sig .tc .vmem S1024x256 .f32).view
/-- One staging buffer of output window 4, through which its contents are stated (`View.read_writes_of_cover`: the
    choice does not matter). -/
abbrev VO0_4 : View sig .tc .vmem S1024x1 .f32 := (Memref.whole cc0_stg4_0 : Memref sig .tc .vmem S1024x1 .f32).view
/-- Each window's current staging memref at point `t`, spelled as the pipeline passes it (`bodyAt0`), and its wholeness. -/
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 64, 128, 192), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) :
    Σ' (L3 : List (View.Piece (Elt F) S1024x256 .f32)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_swiglu_proj i arg2 harg2 arg3 harg3 arg4 harg4 arg5 harg5 arg6 harg6) K } := by
  refine ⟨?_, ?_, fun E K => ?run⟩
  case run =>
    simp only [cc0_swiglu_proj_eq_skeleton]; unfold cc0_swiglu_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 255: 252 of 256), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) :
    Σ' (L3 : List (View.Piece (Elt F) S1024x256 .f32)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_swiglu_proj i arg2 harg2 arg3 harg3 arg4 harg4 arg5 harg5 arg6 harg6) K } := by
  refine ⟨?_, ?_, fun E K => ?run⟩
  case run =>
    simp only [cc0_swiglu_proj_eq_skeleton]; unfold cc0_swiglu_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S1024x256`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) (y : S1024x256.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x256.size (by sl_kernel_rfl) y

/-- What case A leaves in output 3's staging buffer: its pieces read back over junk. -/
def out0_A_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) : Vec F S1024x256 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for output 4 tile its block (1 store of `S1024x1`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) (y : S1024x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x1.size (by sl_kernel_rfl) y

/-- What case A leaves in output 4's staging buffer: its pieces read back over junk. -/
def out0_A_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) : Vec F S1024x1 .f32 :=
  VO0_4.read (Elt F) (VO0_4.writes (Elt F) VO0_4.junk (kernelRun0_A c i arg2 harg2 arg3 harg3 arg4 harg4 arg5 harg5 arg6 harg6 hc0 hc1 x0 x1 x2).2.1)

/-- Case B's pieces for output 3 tile its block (1 store of `S1024x256`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) (y : S1024x256.Idx) :
    ∃ pc ∈ (kernelRun0_B c i arg2 harg2 arg3 harg3 arg4 harg4 arg5 harg5 arg6 harg6 hc0 hc1 x0 x1 x2 xo4).1, y ∈ pc.1.set :=
  View.cover_of_tiledL (kernelRun0_B c i arg2 harg2 arg3 harg3 arg4 harg4 arg5 harg5 arg6 harg6 hc0 hc1 x0 x1 x2 xo4).1 S1024x256.size (by sl_kernel_rfl) y

/-- What case B leaves in output 3's staging buffer: its pieces read back over junk. -/
def out0_B_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) : Vec F S1024x256 .f32 :=
  VO0_3.read (Elt F) (VO0_3.writes (Elt F) VO0_3.junk (kernelRun0_B c i arg2 harg2 arg3 harg3 arg4 harg4 arg5 harg5 arg6 harg6 hc0 hc1 x0 x1 x2 xo4).1)

/-- Case B's pieces for output 4 tile its block (1 store of `S1024x1`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) (y : S1024x1.Idx) :
    ∃ pc ∈ (kernelRun0_B c i arg2 harg2 arg3 harg3 arg4 harg4 arg5 harg5 arg6 harg6 hc0 hc1 x0 x1 x2 xo4).2.1, y ∈ pc.1.set :=
  View.cover_of_tiledL (kernelRun0_B c i arg2 harg2 arg3 harg3 arg4 harg4 arg5 harg5 arg6 harg6 hc0 hc1 x0 x1 x2 xo4).2.1 S1024x1.size (by sl_kernel_rfl) y

/-- What case B leaves in output 4's staging buffer: its pieces read back over junk. -/
def out0_B_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) : Vec F S1024x1 .f32 :=
  VO0_4.read (Elt F) (VO0_4.writes (Elt F) VO0_4.junk (kernelRun0_B c i arg2 harg2 arg3 harg3 arg4 harg4 arg5 harg5 arg6 harg6 hc0 hc1 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x256 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩))
  | n + 1, hn =>
    if h0 : (n + 1) % 64 = 0 then
      if h1 : 1 ≤ (n + 1) % 64 then
        False.elim (by have hN : n + 1 < 256 := lt_of_lt_of_eq hn (show cfg0.N = 256 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩))
    else
      if h1 : 1 ≤ (n + 1) % 64 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2)
      else
        False.elim (by have hN : n + 1 < 256 := lt_of_lt_of_eq hn (show cfg0.N = 256 from N_0); omega)

/-- `outsAt0` at a point of case A: that case's contents. -/
theorem outsAt0_A (c : Dev nD) (t : Fin cfg0.N) (h0 : t.val % 64 = 0) (h1 : ¬1 ≤ t.val % 64) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t) (iblk V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : 1 ≤ t.val % 64) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = (outsAt0 V c t.val t.isLt).1 := by dsimp only [dat]
theorem after0_4 (c : Dev nD) (t : Fin cfg0.N) : (dat V c).after 4 t = (outsAt0 V c t.val t.isLt).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat V c).after 4 t = (dat V c).after 4 ⟨t.val - 1, by omega⟩ := by
  intro t _ hi _
  have hN : t.val < 256 := lt_of_lt_of_eq t.isLt (show cfg0.N = 256 from N_0)
  rw [after0_4, after0_4]
  by_cases h0 : t.val % 64 = 0
  · by_cases h1 : 1 ≤ t.val % 64
    · exfalso; omega
    · rw [liveAt0_4_A t ((hcond0_0 t).mpr h0) (fun h => h1 ((hcond0_1 t).mp h))] at hi
      exact absurd hi Bool.false_ne_true
  · by_cases h1 : 1 ≤ t.val % 64
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 64 = 0) (h1 : 1 ≤ t.val % 64) (d) :
    (dat V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).Φ t.succ = (dat V c).Φ t.castSucc from rfl,
    show (dat V c).owesAt () t.succ = (dat V c).owesAt () t.castSucc from rfl]
  have hN : t.val < 256 := lt_of_lt_of_eq t.isLt (show cfg0.N = 256 from N_0)
  by_cases h0 : t.val % 64 = 0
  · by_cases h1 : 1 ≤ t.val % 64
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 64
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Whole.R0

end
-- ==== Proof.WholeRegion1.lean ====
/-
  The second call of the whole program (exponents by comparisons, scales, codes), entered from any contents `V` of the
  unscoped buffers: what its body leaves in its outputs, the proof data of its pipeline and the body obligation.
-/
module

public import proofs.«01_k».proof.Proof.Gen.Whole.Skeleton
public import proofs.«01_k».proof.Proof.Gen.Whole.Launch
public import proofs.«01_k».proof.Proof.Gen.Whole.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.WordCmp
public import Idealize.ShloMosaic.Lib.Tactic

@[expose] public section

set_option maxRecDepth 16384

noncomputable section

namespace Cert.Whole.R1

open Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x1 := Rect.unit (s := S128x1) ![0, 0] S128x1.size inb_S128x1_S128x1_0_0
abbrev r0_1 : Rect S128x16384 := Rect.unit (s := S128x16384) ![0, 0] S128x16384.size inb_S128x16384_S128x16384_0_0

/-! ## What the body leaves in each output window's buffer -/

/-- The exponents the body finds, from the row maxima's block. -/
def expo (x1 : Vec F S128x1 .f32) : IVec S128x1 32 :=
  k1_pay7 (k1_pay2 (View.ld x1 r0_0)) (k1_pay3 (View.ld x1 r0_0)) (k1_pay4 (View.ld x1 r0_0)) (k1_pay5 (View.ld x1 r0_0)) k1_pay6

/-- The codes' staging buffer after the body, from the input windows' blocks: its one store as a piece. -/
def out0_2 (x0 : Vec F S128x16384 .f32) (x1 : Vec F S128x1 .f32) : Vec F S128x16384 .fp8e4m3 :=
  View.canon [⟨r0_1, k1_pay1 (expo x1) k1_pay9 (View.ld x0 r0_1)⟩]

/-- Its store covers the buffer. -/
theorem cover0_2 (p0 : Vec F S128x16384 .fp8e4m3) (y : S128x16384.Idx) :
    ∃ pc ∈ ([⟨r0_1, p0⟩] : List (View.Piece (Elt F) S128x16384 .fp8e4m3)), y ∈ pc.1.set :=
  View.cover_of_tiled [⟨r0_1, p0⟩] S128x16384.size (by rfl) y

/-- The scales' staging buffer after the body, from the row maxima's block: its one store as a piece. -/
def out0_3 (x1 : Vec F S128x1 .f32) : Vec F S128x1 .f32 :=
  View.canon [⟨r0_0, k1_pay8 (k1_pay2 (View.ld x1 r0_0)) (k1_pay3 (View.ld x1 r0_0)) (k1_pay4 (View.ld x1 r0_0)) (k1_pay5 (View.ld x1 r0_0)) k1_pay6⟩]

/-- Its store covers the buffer. -/
theorem cover0_3 (p0 : Vec F S128x1 .f32) (y : S128x1.Idx) :
    ∃ pc ∈ ([⟨r0_0, p0⟩] : List (View.Piece (Elt F) S128x1 .f32)), y ∈ pc.1.set :=
  View.cover_of_tiled [⟨r0_0, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S128x16384 .f32) (harg1 : arg1.IsWhole) (arg2 : Memref sig .tc .vmem S128x1 .f32) (harg2 : arg2.IsWhole) (arg3 : Memref sig .tc .vmem S128x16384 .fp8e4m3) (harg3 : arg3.IsWhole) (arg4 : Memref sig .tc .vmem S128x1 .f32) (harg4 : arg4.IsWhole)
    (x0 : Vec F S128x16384 .f32) (x1 : Vec F S128x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x1)) -∗ K ⟨⟩))
      ⊢ wp frame (wpE (defs₀ (F := F)) Variants.none c none) E (cc1_fp8_quant i arg1 harg1 arg2 harg2 arg3 harg3 arg4 harg4) K := by
  simp only [cc1_fp8_quant_eq_skeleton]; unfold cc1_fp8_quant_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

/-! ## The pipeline's proof data -/

/-- The proof data of the pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 1 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl`: Lib/Pipeline.lean `Dat`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = out0_2 (iblk V c 0 t) (iblk V c 1 t) := by dsimp only [dat]
theorem after0_3 (c : Dev nD) (t : Fin cfg1.N) : (dat V c).after 3 t = out0_3 (iblk V c 1 t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks (`before0_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Whole.R1

end
-- ==== Proof.WholeRun.lean ====
/-
  The whole program run end to end: the two calls as regions of @main between the host's reshapes, entered one after
  the other, and what every final state then holds: the three results, both arguments, every semaphore counter.
-/
module

public import proofs.«01_k».proof.Proof.Gen.Whole.Regions
public import proofs.«01_k».proof.Proof.WholeRegion0
public import proofs.«01_k».proof.Proof.WholeRegion1
public import Idealize.ShloMosaic.Lib.Pipeline.RegionsLoop

@[expose] public section

noncomputable section

namespace Cert.Whole.Run

open Cert.Whole.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers as the first call finds them, read per TensorCore reference. -/
abbrev A1 (c : Dev nD) (b : Ref sig .tc) : Buf (Elt F) ((c : Thread nD τ).loc b) := V1 m c b

/-- The unscoped buffers after the first call: its two output arrays at what its pipeline leaves. -/
abbrev W2 (c : Dev nD) : Valuation τ sig (Elt F) :=
  Function.update (Function.update (V1 m c) main_v2_0 ((R0.dat (A1 m) c).arrAt 3 cfg0.N)) main_v2_1 ((R0.dat (A1 m) c).arrAt 4 cfg0.N)

/-- The unscoped buffers as the second call finds them, read per TensorCore reference. -/
abbrev A2 (c : Dev nD) (b : Ref sig .tc) : Buf (Elt F) ((c : Thread nD τ).loc b) := W2 m c b

/-- The unscoped buffers after the second call: its two output arrays at what its pipeline leaves. -/
abbrev W3 (c : Dev nD) : Valuation τ sig (Elt F) :=
  Function.update (Function.update (W2 m c) main_v3_0 ((R1.dat (A2 m) c).arrAt 2 cfg1.N)) main_v3_1 ((R1.dat (A2 m) c).arrAt 3 cfg1.N)

/-- The unscoped buffers after the second call, read per TensorCore reference. -/
abbrev A3 (c : Dev nD) (b : Ref sig .tc) : Buf (Elt F) ((c : Thread nD τ).loc b) := W3 m c b

/-- What the two calls leave in the buffers they may change. -/
def outs : Outs (F := F) := fun J r c => if J = 2 then W2 m c r else W3 m c r

theorem ne_21_20 : (Proc.devRef .tc main_v2_0 : DevRef τ sig) ≠ Proc.devRef .tc main_v2_1 := by decide
theorem ne_31_30 : (Proc.devRef .tc main_v3_0 : DevRef τ sig) ≠ Proc.devRef .tc main_v3_1 := by decide

theorem W2_20 (c : Dev nD) : W2 m c main_v2_0 = (R0.dat (A1 m) c).arrAt 3 cfg0.N :=
  (Function.update_of_ne ne_21_20 _ _).trans (Function.update_self ..)
theorem W2_21 (c : Dev nD) : W2 m c main_v2_1 = (R0.dat (A1 m) c).arrAt 4 cfg0.N := Function.update_self ..
theorem W3_30 (c : Dev nD) : W3 m c main_v3_0 = (R1.dat (A2 m) c).arrAt 2 cfg1.N :=
  (Function.update_of_ne ne_31_30 _ _).trans (Function.update_self ..)
theorem W3_31 (c : Dev nD) : W3 m c main_v3_1 = (R1.dat (A2 m) c).arrAt 3 cfg1.N := Function.update_self ..

/-- Off its two outputs the first call changes nothing. -/
theorem W2_of (c : Dev nD) (r : Ref sig .tc) (h0 : r ≠ main_v2_0) (h1 : r ≠ main_v2_1) : W2 m c r = V1 m c r :=
  (Function.update_of_ne (StableHlo.devRef_ne_of_ne h1) _ _).trans (Function.update_of_ne (StableHlo.devRef_ne_of_ne h0) _ _)
/-- Off its two outputs the second call changes nothing. -/
theorem W3_of (c : Dev nD) (r : Ref sig .tc) (h0 : r ≠ main_v3_0) (h1 : r ≠ main_v3_1) : W3 m c r = W2 m c r :=
  (Function.update_of_ne (StableHlo.devRef_ne_of_ne h1) _ _).trans (Function.update_of_ne (StableHlo.devRef_ne_of_ne h0) _ _)

theorem outs_2 (r : Ref sig .tc) (c : Dev nD) : outs m 2 r c = W2 m c r := if_pos rfl
theorem outs_3 (r : Ref sig .tc) (c : Dev nD) : outs m 3 r c = W3 m c r := if_neg (by decide)

/-- The generated valuation after the first call, at these contents. -/
theorem V2_eq (c : Dev nD) : V2 m (outs m) c = W2 m c :=
  congrArg₂ (fun x y => Function.update (Function.update (V1 m c) main_v2_0 x) main_v2_1 y)
    ((outs_2 m main_v2_0 c).trans (W2_20 m c)) ((outs_2 m main_v2_1 c).trans (W2_21 m c))
/-- The generated valuation after the second call, at these contents. -/
theorem V3_eq (c : Dev nD) : V3 m (outs m) c = W3 m c :=
  (congrArg₂ (fun x y => Function.update (Function.update (V2 m (outs m) c) main_v3_0 x) main_v3_1 y)
    ((outs_3 m main_v3_0 c).trans (W3_30 m c)) ((outs_3 m main_v3_1 c).trans (W3_31 m c))).trans
    (congrArg (fun v : Valuation τ sig (Elt F) => Function.update (Function.update v main_v3_0 ((R1.dat (A2 m) c).arrAt 2 cfg1.N)) main_v3_1 ((R1.dat (A2 m) c).arrAt 3 cfg1.N)) (V2_eq m c))

/-! ## The two calls as regions -/

/-- The proof data of the two pipelines. -/
def pdats : (p : Fin 2) → (c : Dev nD) → Dat τ (Elt F) Unit ℕ (UR sig nD τ) ℕ (cfgs p) c
  | ⟨0, _⟩ => fun c => R0.dat (A1 m) c
  | ⟨1, _⟩ => fun c => R1.dat (A2 m) c

/-- No core owes another anything: no level is assigned. -/
abbrev L : GSem nD τ sig → Finset Unit := fun _ => ∅
abbrev lv : GSem nD τ sig → Unit → ℕ := fun _ _ => 0

/-- What rides along beside the unscoped buffers: the generator register, and that nothing is owed. -/
def E (_ : Fin 3) (c : Dev nD) : sProp 𝕄 :=
  iprop((∃ r, prngReg c r) ∗ ∃ W, owes (c : Thread nD τ) (0 : CellTallies nD τ sig Unit) W)

set_option backward.isDefEq.respectTransparency.types false in
/-- The first call as a region: its arrays (two windows read halves of one weight array) split out of the unscoped
    buffers, and put back with the outputs at what the pipeline leaves. -/
def reg0 : RegionSeg (pcfgs (F := F)) adm (pdats m) () defs₀ Variants.none L lv 0 where
  win := launch₀0.win
  block_pos := launch₀0.block_pos
  stage_whole := launch₀0.stage_whole
  K := PEmpty
  osem k := k.elim
  ho := Pipeline.OwnSemFacts.none _
  hbody c := (R0.body_obligation (A1 m) c).loose
  hwaits := Pipeline.hwaits_of_owed_zero _ _ _ _ L lv 0 fun _ _ => rfl
  pre c := iprop(unscopedBufs c (A1 m c) ∗ E 0 c)
  post c := iprop(unscopedBufs c (A2 m c) ∗ E 1 c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (A1 m c) fun _ => rfl
    unfold E
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 0 c).Φ 0 = Pipeline.ΦA spec0 c from rfl]
    unfold Pipeline.ΦA
    iintro ⟨HR, -, Hr⟩
    isplitl [Hr]; · iexact Hr
    iexact HR
  hout c := by
    rw [Pipeline.ownSems0_none, show (pdats m 0 c).Φ (Fin.last _) = Pipeline.ΦA spec0 c from rfl]
    unfold Pipeline.ΦA
    iintro ⟨Hr, HR⟩
    isplitl [HR]; · iexact HR
    isplitr; · iempintro
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      (pdats m) (fun _ _ => rfl) (A1 m c) (A2 m c) ((pdats m 0 c).arrAt · cfg0.N)
      (fun w => by
        fin_cases w
        · exact ((pdats m 0 c).arrAt_in 0 rfl _).trans (W2_of m c main_v1 (by decide) (by decide)).symm
        · exact ((pdats m 0 c).arrAt_in 1 rfl _).trans (W2_of m c main_arg1 (by decide) (by decide)).symm
        · exact ((pdats m 0 c).arrAt_in 2 rfl _).trans (W2_of m c main_arg1 (by decide) (by decide)).symm
        · exact (W2_20 m c).symm
        · exact (W2_21 m c).symm)
      (fun b hb => W2_of m c b (fun h => hb (h ▸ Finset.mem_image.mpr ⟨3, Finset.mem_univ _, rfl⟩))
        (fun h => hb (h ▸ Finset.mem_image.mpr ⟨4, Finset.mem_univ _, rfl⟩)))
    unfold E
    iintro ⟨Ha, HO, HR, Hrest⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The second call as a region: its four arrays split out of the unscoped buffers, and put back with the outputs at
    what the pipeline leaves. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (A2 m) c).loose
  hwaits := Pipeline.hwaits_of_owed_zero _ _ _ _ L lv 1 fun _ _ => rfl
  pre c := iprop(unscopedBufs c (A2 m c) ∗ E 1 c)
  post c := iprop(unscopedBufs c (A3 m c) ∗ E 2 c)
  X c := iprop(∃ r, prngReg c r)
  Y c := iprop(∃ r, prngReg c r)
  Z c := Pipeline.unscopedRest (Ix := Unit) (Name := ℕ) (U := UR sig nD τ) (Lvl := ℕ) spec1 c (A2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A2 m c) fun _ => rfl
    unfold E
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 1 c).Φ 0 = Pipeline.ΦA spec1 c from rfl]
    unfold Pipeline.ΦA
    iintro ⟨HR, -, Hr⟩
    isplitl [Hr]; · iexact Hr
    iexact HR
  hout c := by
    rw [Pipeline.ownSems0_none, show (pdats m 1 c).Φ (Fin.last _) = Pipeline.ΦA spec1 c from rfl]
    unfold Pipeline.ΦA
    iintro ⟨Hr, HR⟩
    isplitl [HR]; · iexact HR
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (A2 m c) (A3 m c) ((pdats m 1 c).arrAt · cfg1.N)
      (fun w => by
        fin_cases w
        · exact ((pdats m 1 c).arrAt_in 0 rfl _).trans (W3_of m c main_v2_0 (by decide) (by decide)).symm
        · exact ((pdats m 1 c).arrAt_in 1 rfl _).trans (W3_of m c main_v2_1 (by decide) (by decide)).symm
        · exact (W3_30 m c).symm
        · exact (W3_31 m c).symm)
      (fun b hb => W3_of m c b (fun h => hb (h ▸ Finset.mem_image.mpr ⟨2, Finset.mem_univ _, rfl⟩))
        (fun h => hb (h ▸ Finset.mem_image.mpr ⟨3, Finset.mem_univ _, rfl⟩)))
    unfold E
    iintro ⟨Ha, HO, HR, Hrest⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

/-! ## The run -/

/-- The thread state before the first call, in the region's spelling. -/
theorem hpre0 (c : Dev nD) : (iprop(StableHlo.held (c : Thread nD τ) (Pipeline.ucRefs τ sig) (V1 m c) ∗ E 0 c) : sProp 𝕄) ⊢ (reg0 m).pre c :=
  sep_mono (Entails.of_eq (Pipeline.unscopedBufs_held (Ix := Unit) (Name := ℕ) (U := UR sig nD τ) (Lvl := ℕ) c (V1 m c)).symm) .rfl
/-- The first call leaves the second call's thread state. -/
theorem hpost0 (c : Dev nD) : (reg0 m).post c ⊢ (reg1 m).pre c := .rfl
/-- The second call leaves the last host stretch's thread state. -/
theorem hpost1 (c : Dev nD) : (reg1 m).post c ⊢ (iprop(StableHlo.held (c : Thread nD τ) (Pipeline.ucRefs τ sig) (V3 m (outs m) c) ∗ E 2 c) : sProp 𝕄) := by
  rw [V3_eq]
  exact sep_mono (Entails.of_eq (Pipeline.unscopedBufs_held (Ix := Unit) (Name := ℕ) (U := UR sig nD τ) (Lvl := ℕ) c (W3 m c))) .rfl
/-- What rides along at the end says that nothing is owed. -/
theorem hE2 (c : Dev nD) : (E 2 c : sProp 𝕄) ⊢ iprop(∃ W, owes (c : Thread nD τ) (0 : CellTallies nD τ sig Unit) W) := by
  unfold E
  iintro ⟨-, H⟩; iexact H

/-- The unscoped buffers at the end: the second call's, then the three reshapes. -/
abbrev W4 (c : Dev nD) : Valuation τ sig (Elt F) := StableHlo.after hostOps2 (W3 m c)

set_option backward.isDefEq.respectTransparency.types false in
/-- THE RUN: from any memory with zero counters every weakly fair execution of @main terminates; every final state holds
    the three results at `W4`, both arguments as launched, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v4) = W4 m c main_v4
      ∧ r.2.mem ((c.tc : Thread nD τ).loc main_v5) = W4 m c main_v5
      ∧ r.2.mem ((c.tc : Thread nD τ).loc main_v6) = W4 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => (BI.emp : sProp 𝕄)) (initOf (Pipeline.cells cfgs cellOf_inj) (Pipeline.launchToks cfgs cellOf_inj)) ?hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, hpost0 m c, hpost1 m c, sep_mono .rfl (hE2 c)⟩)
    (hinit := ?hinit) (QY := fun c s => s.mem ((c.tc : Thread nD τ).loc main_v4) = W4 m c main_v4
      ∧ s.mem ((c.tc : Thread nD τ).loc main_v5) = W4 m c main_v5
      ∧ s.mem ((c.tc : Thread nD τ).loc main_v6) = W4 m c main_v6
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?hfin) (hQ := fun _ h hz => ⟨h, funext fun g => hz g (.inr (regions_no_unscoped g.2))⟩)
  case hu₀ =>
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(StableHlo.held (c : Thread nD τ) (Pipeline.ucRefs τ sig) (V0 m c) ∗ E 0 c) : sProp 𝕄) :=
      bigSep_mono fun c _ => by
        rw [← Pipeline.unscopedBufs_held (Ix := Unit) (Name := ℕ) (U := UR sig nD τ) (Lvl := ℕ) c (V0 m c)]
        unfold E
        show _ ⊢ (iprop(unscopedBufs c (fun b => V0 m c b) ∗ (∃ r, prngReg c r) ∗ ∃ W, owes (c : Thread nD τ) (0 : CellTallies nD τ sig Unit) W) : sProp 𝕄)
        iintro ⟨Hb, -, Ho, -, Hp, -⟩
        isplitl [Hb]; · iexact Hb
        isplitl [Hp]; · iexists _; iexact Hp
        iexists _; iexact Ho
    iintro ⟨H, -⟩
    imodintro
    iapply hsplit; iexact H
  case hfin =>
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have e : V4 m (outs m) c = W4 m c := by show StableHlo.after hostOps2 (V3 m (outs m) c) = _; rw [V3_eq]
      rw [← e]
      exact ⟨h (Proc.devRef .tc main_v4) (Finset.mem_filter.mpr ⟨StableHlo.devRef_mem_tcRefs main_v4, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩
    · iexact HSI

/-- The frame: the arguments end unchanged and every semaphore counter reads zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2.2, h.2⟩) (run m ρ)

end Cert.Whole.Run

end
-- ==== Proof.WholeScalar.lean ====
/- The quantiser's arithmetic on one row maximum, over the extended reals. The kernel finds the exponent of the row's scale by an
   eight-step search over powers of two written as exponent fields; the reference counts the powers of two that do not exceed the scale.
   The kernel writes a power of two as an exponent field; the reference raises two to it. Both pairs are shown equal. -/
module

public import Idealize.ShloMosaic.PureOps.Ideal.Laws

@[expose] public section

set_option maxRecDepth 16384

noncomputable section

open Idealize.ShloMosaic

namespace Cert.WholeScalar

/-! ## Powers of two as exponent fields -/

/-- Two to an integer power. -/
def two (i : ℤ) : EReal := (((2 : ℝ) ^ i : ℝ) : EReal)

theorem two_le_two {i j : ℤ} (h : i ≤ j) : two i ≤ two j :=
  EReal.coe_le_coe_iff.mpr (zpow_le_zpow_right₀ (by norm_num) h)

/-- The number whose exponent field is `b` and whose fraction is zero. -/
def field (b : BitVec 32) : EReal := Ideal.ofBits .f32 (IntOp.shli .vector b 23#32)

/-- The shift by 23 is in range. -/
theorem shli_23 (b : BitVec 32) : IntOp.shli .vector b 23#32 = b <<< (23#32 : BitVec 32) := if_pos (by decide)

/-- The parts of a word that holds `b` in its exponent field. -/
theorem field_parts : ∀ b : Fin 256,
    (BitVec.ofNat 32 b.val <<< (23#32 : BitVec 32)).extractLsb' 31 1 = 0#1
      ∧ ((BitVec.ofNat 32 b.val <<< (23#32 : BitVec 32)).extractLsb' 23 8).toNat = b.val
      ∧ ((BitVec.ofNat 32 b.val <<< (23#32 : BitVec 32)).extractLsb' 0 23).toNat = 0 := by
  decide +kernel

/-- The number a word writes whose sign and fraction are zero. -/
theorem ofBits_parts (w : BitVec 32) (n : Nat) (h1 : w.extractLsb' 31 1 = 0#1) (h2 : (w.extractLsb' 23 8).toNat = n)
    (h3 : (w.extractLsb' 0 23).toNat = 0) :
    Ideal.ofBits .f32 w = if n = 255 then ⊤ else if n = 0 then 0 else two ((n : ℤ) - 127) := by
  unfold Ideal.ofBits Ideal.ieee
  dsimp only
  rw [h1, h2, h3]
  by_cases e1 : n = 255
  · subst e1; simp
  · rw [if_neg e1, if_neg (by norm_num; omega)]
    by_cases e2 : n = 0
    · subst e2; simp
    · rw [if_neg e2, if_neg e2]
      unfold two
      congr 1
      have hp : ((2 : ℝ) ^ 23) * (2 : ℝ) ^ ((n : ℤ) - (2 ^ (8 - 1) - 1) - (23 : ℕ)) = (2 : ℝ) ^ ((n : ℤ) - 127) := by
        rw [← zpow_natCast, ← zpow_add₀ (by norm_num)]
        congr 1
        norm_num
      rw [← hp]
      norm_num

/-- The number a field writes. -/
theorem field_eq (b : Nat) (hb : b ≤ 255) :
    field (BitVec.ofNat 32 b) = if b = 255 then ⊤ else if b = 0 then 0 else two ((b : ℤ) - 127) := by
  obtain ⟨h1, h2, h3⟩ := field_parts ⟨b, by omega⟩
  unfold field
  rw [shli_23]
  exact ofBits_parts _ b h1 h2 h3

/-- Field 255 is infinity. -/
theorem field_top : field (BitVec.ofNat 32 255) = ⊤ := by rw [field_eq 255 (by omega), if_pos rfl]

/-- Field zero is zero. -/
theorem field_zero : field (BitVec.ofNat 32 0) = 0 := by rw [field_eq 0 (by omega), if_neg (by omega), if_pos rfl]

/-- A field from 1 to 254 is two to the field minus 127. -/
theorem field_two (b : Nat) (h1 : 1 ≤ b) (h2 : b ≤ 254) : field (BitVec.ofNat 32 b) = two ((b : ℤ) - 127) := by
  rw [field_eq b (by omega), if_neg (by omega), if_neg (by omega)]

/-- Fields from 1 to 255 are in the order of the numbers they write. -/
theorem field_mono {a b : Nat} (h1 : 1 ≤ a) (hab : a ≤ b) (h2 : b ≤ 255) : field (BitVec.ofNat 32 a) ≤ field (BitVec.ofNat 32 b) := by
  by_cases hb : b = 255
  · subst hb; rw [field_top]; exact le_top
  · rw [field_two a h1 (by omega), field_two b (by omega) (by omega)]
    exact two_le_two (by omega)

/-! ## The greatest field not above a number -/

/-- A property of the numbers below `n` that holds of all below any it holds of, holds of exactly those below some cut. -/
theorem exists_cut (P : Nat → Prop) : ∀ n : Nat, (∀ a b, a ≤ b → b < n → P b → P a) → ∃ k ≤ n, ∀ j < n, P j ↔ j < k := by
  intro n
  induction n with
  | zero => exact fun _ => ⟨0, le_refl _, fun j hj => absurd hj (Nat.not_lt_zero j)⟩
  | succ n ih =>
    intro h
    by_cases hp : P n
    · exact ⟨n + 1, le_refl _, fun j hj => ⟨fun _ => hj, fun _ => h j n (by omega) (by omega) hp⟩⟩
    · obtain ⟨k, hk, hj⟩ := ih fun a b hab hb => h a b hab (by omega)
      refine ⟨k, by omega, fun j hjn => ?_⟩
      by_cases e : j = n
      · subst e
        exact ⟨fun hh => absurd hh hp, fun hh => absurd hh (by omega)⟩
      · exact hj j (by omega)

/-- The fields that write a number not above `s` are those up to a greatest one. -/
theorem exists_field (s : EReal) : ∃ k ≤ 255, ∀ b, 1 ≤ b → b ≤ 255 → (field (BitVec.ofNat 32 b) ≤ s ↔ b ≤ k) := by
  obtain ⟨k, hk, h⟩ := exists_cut (fun j => field (BitVec.ofNat 32 (j + 1)) ≤ s) 255 fun a b hab hb hp =>
    (field_mono (by omega) (by omega) (by omega)).trans hp
  refine ⟨k, hk, fun b h1 h2 => ?_⟩
  have hb := h (b - 1) (by omega)
  rw [Nat.sub_add_cancel h1] at hb
  exact hb.trans (by omega)

/-! ## The exponent -/

/-- One step of the search: keep the bit if the field with it does not write more than `s`. -/
def step (s : EReal) (b bit : BitVec 32) : BitVec 32 :=
  if Ideal.cmp .oge s (field (IntOp.addi b bit)) = 1#1 then IntOp.addi b bit else b

/-- The eight-step search, highest bit first. -/
def search (s : EReal) : BitVec 32 :=
  step s (step s (step s (step s (step s (step s (step s (step s 0#32 128#32) 64#32) 32#32) 16#32) 8#32) 4#32) 2#32) 1#32

/-- A comparison is the bit of its truth. -/
theorem cmp_oge (s t : EReal) : (Ideal.cmp .oge s t = 1#1) ↔ t ≤ s := by
  unfold Ideal.cmp
  by_cases h : t ≤ s <;> simp [h]

/-- A step that starts at `b` and tries `b + d`. -/
theorem step_eq (s : EReal) (k b d : Nat) (h : ∀ b, 1 ≤ b → b ≤ 255 → (field (BitVec.ofNat 32 b) ≤ s ↔ b ≤ k)) (hd : 1 ≤ d) (hb : b + d ≤ 255) :
    step s (BitVec.ofNat 32 b) (BitVec.ofNat 32 d) = BitVec.ofNat 32 (if b + d ≤ k then b + d else b) := by
  unfold step IntOp.addi
  rw [← BitVec.ofNat_add]
  have hc := h (b + d) (by omega) hb
  by_cases hk : b + d ≤ k
  · rw [if_pos hk, if_pos ((cmp_oge _ _).mpr (hc.mpr hk))]
  · rw [if_neg hk, if_neg fun hh => hk (hc.mp ((cmp_oge _ _).mp hh))]

/-- The search finds the greatest field. -/
theorem search_eq (s : EReal) (k : Nat) (hk : k ≤ 255) (h : ∀ b, 1 ≤ b → b ≤ 255 → (field (BitVec.ofNat 32 b) ≤ s ↔ b ≤ k)) :
    search s = BitVec.ofNat 32 k := by
  have e7 : step s 0#32 128#32 = BitVec.ofNat 32 (k / 128 * 128) :=
    (step_eq s k 0 128 h (by omega) (by omega)).trans (congrArg _ (by split <;> omega))
  have e6 : step s (BitVec.ofNat 32 (k / 128 * 128)) 64#32 = BitVec.ofNat 32 (k / 64 * 64) :=
    (step_eq s k _ 64 h (by omega) (by omega)).trans (congrArg _ (by split <;> omega))
  have e5 : step s (BitVec.ofNat 32 (k / 64 * 64)) 32#32 = BitVec.ofNat 32 (k / 32 * 32) :=
    (step_eq s k _ 32 h (by omega) (by omega)).trans (congrArg _ (by split <;> omega))
  have e4 : step s (BitVec.ofNat 32 (k / 32 * 32)) 16#32 = BitVec.ofNat 32 (k / 16 * 16) :=
    (step_eq s k _ 16 h (by omega) (by omega)).trans (congrArg _ (by split <;> omega))
  have e3 : step s (BitVec.ofNat 32 (k / 16 * 16)) 8#32 = BitVec.ofNat 32 (k / 8 * 8) :=
    (step_eq s k _ 8 h (by omega) (by omega)).trans (congrArg _ (by split <;> omega))
  have e2 : step s (BitVec.ofNat 32 (k / 8 * 8)) 4#32 = BitVec.ofNat 32 (k / 4 * 4) :=
    (step_eq s k _ 4 h (by omega) (by omega)).trans (congrArg _ (by split <;> omega))
  have e1 : step s (BitVec.ofNat 32 (k / 4 * 4)) 2#32 = BitVec.ofNat 32 (k / 2 * 2) :=
    (step_eq s k _ 2 h (by omega) (by omega)).trans (congrArg _ (by split <;> omega))
  have e0 : step s (BitVec.ofNat 32 (k / 2 * 2)) 1#32 = BitVec.ofNat 32 k :=
    (step_eq s k _ 1 h (by omega) (by omega)).trans (congrArg _ (by split <;> omega))
  unfold search
  rw [e7, e6, e5, e4, e3, e2, e1, e0]

/-- How many of the powers of two from `2 ^ (-126)` to `2 ^ 127` do not exceed `s`, as a word. -/
def count (s : EReal) : BitVec 32 :=
  (Finset.univ : Finset (Fin 254)).fold IntOp.addi 0#32 fun j =>
    (Ideal.cmp .oge s (Ideal.pow (Ideal.ofBits .f32 0x40000000#32) (((IntOp.addi 4294967170#32 (BitVec.ofNat 32 j.val)).toInt : ℝ) : EReal))).setWidth 32

/-- The constant two. -/
theorem ofBits_two : Ideal.ofBits .f32 0x40000000#32 = ((2 : ℝ) : EReal) := by
  simp [Ideal.ofBits, Ideal.ieee, -EReal.coe_mul]
  norm_num

/-- Two raised to an integer. -/
theorem pow_two (i : ℤ) : Ideal.pow (Ideal.ofBits .f32 0x40000000#32) ((i : ℝ) : EReal) = two i := by
  rw [ofBits_two]
  show ((Real.rpow 2 (i : ℝ) : ℝ) : EReal) = two i
  unfold two
  congr 1
  exact Real.rpow_intCast 2 i

/-- The exponents the reference counts over. -/
theorem exps : ∀ j : Fin 254, (IntOp.addi 4294967170#32 (BitVec.ofNat 32 j.val) : BitVec 32).toInt = (j.val : ℤ) - 126 := by
  unfold IntOp.addi
  decide +kernel

/-- A word sum of zeros and ones counts the ones. -/
theorem fold_ones (k n : Nat) : (Finset.univ : Finset (Fin n)).fold IntOp.addi 0#32 (fun j => if j.val < k then 1#32 else 0#32)
    = BitVec.ofNat 32 (min k n) := by
  induction n with
  | zero => simp
  | succ n ih =>
    rw [Fin.univ_castSuccEmb, Finset.fold_cons, Finset.fold_map]
    have e : (fun j : Fin (n + 1) => if j.val < k then 1#32 else 0#32) ∘ (Fin.castSuccEmb : Fin n ↪ Fin (n + 1))
        = fun j : Fin n => if j.val < k then 1#32 else 0#32 := rfl
    rw [e, ih]
    unfold IntOp.addi
    by_cases h : n < k
    · rw [if_pos (by simpa using h), show min k (n + 1) = 1 + min k n by omega, BitVec.ofNat_add]
    · rw [if_neg (by simpa using h), show min k (n + 1) = min k n by omega]
      simp

/-- The count is the greatest field, infinity's left out. -/
theorem count_eq (s : EReal) (k : Nat) (hk : k ≤ 255) (h : ∀ b, 1 ≤ b → b ≤ 255 → (field (BitVec.ofNat 32 b) ≤ s ↔ b ≤ k)) :
    count s = BitVec.ofNat 32 (min k 254) := by
  rw [← fold_ones]
  unfold count
  refine Finset.fold_congr fun j _ => ?_
  have hj := j.isLt
  rw [exps, pow_two]
  have hc := h (j.val + 1) (by omega) (by omega)
  rw [field_two _ (by omega) (by omega), show ((j.val + 1 : ℕ) : ℤ) - 127 = (j.val : ℤ) - 126 by push_cast; ring] at hc
  by_cases hjk : j.val < k
  · rw [if_pos hjk, (cmp_oge s _).mpr (hc.mpr (by omega))]
    rfl
  · have hn : Ideal.cmp .oge s (two ((j.val : ℤ) - 126)) = 0#1 :=
      (BitVec.eq_zero_or_eq_one _).resolve_right fun hh => hjk (by have := hc.mp ((cmp_oge s _).mp hh); omega)
    rw [if_neg hjk, hn]
    rfl

/-- A number is infinite exactly when its greatest field is 255. -/
theorem top_iff (s : EReal) (k : Nat) (hk : k ≤ 255) (h : ∀ b, 1 ≤ b → b ≤ 255 → (field (BitVec.ofNat 32 b) ≤ s ↔ b ≤ k)) :
    s = ⊤ ↔ k = 255 := by
  have hc := h 255 (by omega) (by omega)
  rw [field_top, top_le_iff] at hc
  exact hc.trans (by omega)

/-- The kernel's exponent of a row maximum. -/
def kerExp (a : EReal) : BitVec 32 :=
  if Ideal.cmp .oeq a (Ideal.ofBits .f32 0x00000000#32) = 1#1 then 0#32
  else if IntOp.ori (IntOp.cmpi .eq (search (a * Ideal.ofBits .f32 0x3B124925#32)) 0#32)
      (IntOp.cmpi .eq (search (a * Ideal.ofBits .f32 0x3B124925#32)) 255#32) = 1#1 then 0#32
  else IntOp.subi (search (a * Ideal.ofBits .f32 0x3B124925#32)) 126#32

/-- The reference's exponent of a row maximum. -/
def refExp (a : EReal) : BitVec 32 :=
  if Ideal.cmp .oeq a (Ideal.ofBits .f32 0x00000000#32) = 1#1 then 0#32
  else if IntOp.ori (IntOp.cmpi .eq (count (a * Ideal.ofBits .f32 0x3B124925#32)) 0#32)
      (Ideal.cmp .oeq (a * Ideal.ofBits .f32 0x3B124925#32) (Ideal.ofBits .f32 0x7F800000#32)) = 1#1 then 0#32
  else IntOp.subi (count (a * Ideal.ofBits .f32 0x3B124925#32)) 126#32

/-- The constant infinity. -/
theorem ofBits_top : Ideal.ofBits .f32 0x7F800000#32 = ⊤ := by simp [Ideal.ofBits, Ideal.ieee]
/-- The constant zero. -/
theorem ofBits_zero : Ideal.ofBits .f32 0x00000000#32 = 0 := by simp [Ideal.ofBits, Ideal.ieee]

/-- The exponent a greatest field stands for. -/
def expOf (k : Nat) : BitVec 32 := if k = 0 ∨ k = 255 then 0#32 else BitVec.ofNat 32 k - 126#32

/-- The kernel's guards on the field found. -/
theorem ker_guard : ∀ k : Fin 256, (if IntOp.ori (IntOp.cmpi .eq (BitVec.ofNat 32 k.val) 0#32) (IntOp.cmpi .eq (BitVec.ofNat 32 k.val) 255#32) = 1#1 then 0#32
    else IntOp.subi (BitVec.ofNat 32 k.val) 126#32) = expOf k.val := by decide +kernel

/-- The reference's guards on the count. -/
theorem ref_guard : ∀ k : Fin 256, (if IntOp.ori (IntOp.cmpi .eq (BitVec.ofNat 32 (min k.val 254)) 0#32) (BitVec.ofBool (decide (k.val = 255))) = 1#1 then 0#32
    else IntOp.subi (BitVec.ofNat 32 (min k.val 254)) 126#32) = expOf k.val := by decide +kernel

/-- Both exponents are zero or that of the greatest field. -/
theorem exps_eq (a : EReal) : ∃ k ≤ 255, (kerExp a = if a = 0 then 0#32 else expOf k) ∧ (refExp a = if a = 0 then 0#32 else expOf k) := by
  obtain ⟨k, hk, h⟩ := exists_field (a * Ideal.ofBits .f32 0x3B124925#32)
  refine ⟨k, hk, ?_, ?_⟩
  · unfold kerExp
    rw [search_eq _ k hk h, ofBits_zero]
    have hg := ker_guard ⟨k, by omega⟩
    dsimp only at hg
    rw [hg]
    by_cases h0 : a = 0 <;> simp [Ideal.cmp, h0]
  · unfold refExp
    rw [count_eq _ k hk h, ofBits_zero, ofBits_top]
    have ht : Ideal.cmp .oeq (a * Ideal.ofBits .f32 0x3B124925#32) ⊤ = BitVec.ofBool (decide (k = 255)) := by
      unfold Ideal.cmp
      dsimp only
      congr 1
      exact decide_eq_decide.mpr (top_iff _ k hk h)
    have hg := ref_guard ⟨k, by omega⟩
    dsimp only at hg
    rw [ht, hg]
    by_cases h0 : a = 0 <;> simp [Ideal.cmp, h0]

/-- The search and the count give one exponent. -/
theorem exp_eq (a : EReal) : kerExp a = refExp a := by
  obtain ⟨k, _, h1, h2⟩ := exps_eq a
  rw [h1, h2]

/-! ## Powers of two -/

/-- The kernel's power of two: the exponent, biased and clamped, as an exponent field. -/
def kerPow (e : BitVec 32) : EReal := field (IntOp.minsi 255#32 (IntOp.maxsi 0#32 (IntOp.addi e 127#32)))

/-- The reference's power of two. -/
def refPow (e : BitVec 32) : EReal :=
  if IntOp.cmpi .sgt e 127#32 = 1#1 then Ideal.ofBits .f32 0x7F800000#32
  else if IntOp.cmpi .slt e 4294967170#32 = 1#1 then Ideal.ofBits .f32 0x00000000#32
  else Ideal.pow (Ideal.ofBits .f32 0x40000000#32) ((e.toInt : ℝ) : EReal)

/-- What the kernel's clamped field is, whichever of the reference's cases an exponent falls in. -/
def PowCases (e : BitVec 32) : Prop :=
  if IntOp.cmpi .sgt e 127#32 = 1#1 then IntOp.minsi 255#32 (IntOp.maxsi 0#32 (IntOp.addi e 127#32)) = BitVec.ofNat 32 255
  else if IntOp.cmpi .slt e 4294967170#32 = 1#1 then IntOp.minsi 255#32 (IntOp.maxsi 0#32 (IntOp.addi e 127#32)) = BitVec.ofNat 32 0
  else IntOp.minsi 255#32 (IntOp.maxsi 0#32 (IntOp.addi e 127#32)) = BitVec.ofNat 32 (e.toInt + 127).toNat ∧ 1 ≤ (e.toInt + 127).toNat ∧ (e.toInt + 127).toNat ≤ 254

instance (e : BitVec 32) : Decidable (PowCases e) := by unfold PowCases; infer_instance

/-- Where the clamped field is as described, the two powers agree. -/
theorem pow_eq_of (e : BitVec 32) (h : PowCases e) : kerPow e = refPow e := by
  unfold PowCases at h
  unfold kerPow refPow
  by_cases c1 : IntOp.cmpi .sgt e 127#32 = 1#1
  · rw [if_pos c1] at h
    rw [if_pos c1, h, field_top, ofBits_top]
  · rw [if_neg c1] at h
    rw [if_neg c1]
    by_cases c2 : IntOp.cmpi .slt e 4294967170#32 = 1#1
    · rw [if_pos c2] at h
      rw [if_pos c2, h, field_zero, ofBits_zero]
    · rw [if_neg c2] at h
      obtain ⟨h1, h2, h3⟩ := h
      rw [if_neg c2, h1, field_two _ h2 h3, pow_two]
      have hz : (((e.toInt + 127).toNat : ℕ) : ℤ) - 127 = e.toInt := by omega
      rw [hz]

/-- It is so for every exponent either side computes, and for its negation. -/
theorem cases_all : ∀ k : Fin 256, PowCases (expOf k.val) ∧ PowCases (-(expOf k.val)) := by decide +kernel

/-- The scale of a row maximum. -/
theorem scale_eq (a : EReal) : kerPow (kerExp a) = refPow (refExp a) := by
  obtain ⟨k, hk, h1, h2⟩ := exps_eq a
  rw [h1, h2]
  have hc := (cases_all ⟨k, by omega⟩).1
  have h0 := (cases_all ⟨0, by omega⟩).1
  by_cases ha : a = 0
  · rw [if_pos ha]; exact pow_eq_of _ h0
  · rw [if_neg ha]; exact pow_eq_of _ hc

/-- The inverse scale of a row maximum. -/
theorem inverse_eq (a : EReal) : kerPow (IntOp.subi 0#32 (kerExp a)) = refPow (-(refExp a)) := by
  obtain ⟨k, hk, h1, h2⟩ := exps_eq a
  rw [h1, h2, show ∀ x : BitVec 32, IntOp.subi 0#32 x = -x from fun x => BitVec.zero_sub x]
  have hc := (cases_all ⟨k, by omega⟩).2
  have h0 := (cases_all ⟨0, by omega⟩).2
  by_cases ha : a = 0
  · rw [if_pos ha]; exact pow_eq_of _ h0
  · rw [if_neg ha]; exact pow_eq_of _ hc

/-- A code from an element and its row's inverse scale, before it is rounded: the product, clamped to ±448. -/
def code (x inv : EReal) : EReal :=
  min (Ideal.ofBits .f32 0x43E00000#32) (max (Ideal.ofBits .f32 0xC3E00000#32) (x * inv))

end Cert.WholeScalar

end
-- ==== Proof.WholeIdealRegion0.lean ====
/-
  The first call of the whole program (both products, SwiGLU, row maxima), entered from any contents `V` of the
  unscoped buffers: what its body stores in each case, what its outputs hold point by point, the proof data of its
  pipeline and the body obligation.
-/
module

public import proofs.«01_k».proof.Proof.Gen.WholeIdeal.Skeleton
public import proofs.«01_k».proof.Proof.Gen.WholeIdeal.Launch
public import proofs.«01_k».proof.Proof.Gen.WholeIdeal.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.WordCmp
public import Idealize.ShloMosaic.Lib.Tactic

@[expose] public section

set_option maxRecDepth 16384

noncomputable section

namespace Cert.WholeIdeal.R0

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 64) — by arithmetic of the point. -/
theorem hcond0_0 : ∀ t : Fin cfg0.N, cond0_0 (grid0.coords t) ↔ t.val % 64 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 1 % 64 := Pipeline.Grid.coords_val t 1 (by decide) rfl
    simp only [cond0_0, k0_cond1, e0, e1]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 64 :=
  (by decide +kernel : ∀ t : Fin grid0.N, cond0_1 (grid0.coords t) ↔ 1 ≤ t.val % 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8000000000000000800000000000000080000000000000008000000000000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 3, through which its contents are stated (`View.read_writes_of_cover`: the
    choice does not matter). -/
abbrev VO0_3 : View sig .tc .vmem S1024x256 .f32 := (Memref.whole cc0_stg3_0 : Memref sig .tc .vmem S1024x256 .f32).view
/-- One staging buffer of output window 4, through which its contents are stated (`View.read_writes_of_cover`: the
    choice does not matter). -/
abbrev VO0_4 : View sig .tc .vmem S1024x1 .f32 := (Memref.whole cc0_stg4_0 : Memref sig .tc .vmem S1024x1 .f32).view
/-- Each window's current staging memref at point `t`, spelled as the pipeline passes it (`bodyAt0`), and its wholeness. -/
abbrev ms0_0 (t : Fin cfg0.N) : Memref sig .tc .vmem S1024x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 64, 128, 192), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) :
    Σ' (L3 : List (View.Piece (Elt F) S1024x256 .f32)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_swiglu_proj i arg2 harg2 arg3 harg3 arg4 harg4 arg5 harg5 arg6 harg6) K } := by
  refine ⟨?_, ?_, fun E K => ?run⟩
  case run =>
    simp only [cc0_swiglu_proj_eq_skeleton]; unfold cc0_swiglu_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 255: 252 of 256), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) :
    Σ' (L3 : List (View.Piece (Elt F) S1024x256 .f32)), { L4 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_swiglu_proj i arg2 harg2 arg3 harg3 arg4 harg4 arg5 harg5 arg6 harg6) K } := by
  refine ⟨?_, ?_, fun E K => ?run⟩
  case run =>
    simp only [cc0_swiglu_proj_eq_skeleton]; unfold cc0_swiglu_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S1024x256`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) (y : S1024x256.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x256.size (by sl_kernel_rfl) y

/-- What case A leaves in output 3's staging buffer: its pieces read back over junk. -/
def out0_A_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) : Vec F S1024x256 .f32 :=
  VO0_3.read (Elt F) (VO0_3.writes (Elt F) VO0_3.junk (kernelRun0_A c i arg2 harg2 arg3 harg3 arg4 harg4 arg5 harg5 arg6 harg6 hc0 hc1 x0 x1 x2).1)

/-- Case A's pieces for output 4 tile its block (1 store of `S1024x1`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) (y : S1024x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x1.size (by sl_kernel_rfl) y

/-- What case A leaves in output 4's staging buffer: its pieces read back over junk. -/
def out0_A_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : cond0_0 i) (hc1 : ¬cond0_1 i)
    (x0 : Vec F S1024x8192 .bf16) (x1 : Vec F S8192x256 .f32) (x2 : Vec F S8192x256 .f32) : Vec F S1024x1 .f32 :=
  VO0_4.read (Elt F) (VO0_4.writes (Elt F) VO0_4.junk (kernelRun0_A c i arg2 harg2 arg3 harg3 arg4 harg4 arg5 harg5 arg6 harg6 hc0 hc1 x0 x1 x2).2.1)

/-- Case B's pieces for output 3 tile its block (1 store of `S1024x256`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) (y : S1024x256.Idx) :
    ∃ pc ∈ (kernelRun0_B c i arg2 harg2 arg3 harg3 arg4 harg4 arg5 harg5 arg6 harg6 hc0 hc1 x0 x1 x2 xo4).1, y ∈ pc.1.set :=
  View.cover_of_tiledL (kernelRun0_B c i arg2 harg2 arg3 harg3 arg4 harg4 arg5 harg5 arg6 harg6 hc0 hc1 x0 x1 x2 xo4).1 S1024x256.size (by sl_kernel_rfl) y

/-- What case B leaves in output 3's staging buffer: its pieces read back over junk. -/
def out0_B_3 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) : Vec F S1024x256 .f32 :=
  VO0_3.read (Elt F) (VO0_3.writes (Elt F) VO0_3.junk (kernelRun0_B c i arg2 harg2 arg3 harg3 arg4 harg4 arg5 harg5 arg6 harg6 hc0 hc1 x0 x1 x2 xo4).1)

/-- Case B's pieces for output 4 tile its block (1 store of `S1024x1`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) (y : S1024x1.Idx) :
    ∃ pc ∈ (kernelRun0_B c i arg2 harg2 arg3 harg3 arg4 harg4 arg5 harg5 arg6 harg6 hc0 hc1 x0 x1 x2 xo4).2.1, y ∈ pc.1.set :=
  View.cover_of_tiledL (kernelRun0_B c i arg2 harg2 arg3 harg3 arg4 harg4 arg5 harg5 arg6 harg6 hc0 hc1 x0 x1 x2 xo4).2.1 S1024x1.size (by sl_kernel_rfl) y

/-- What case B leaves in output 4's staging buffer: its pieces read back over junk. -/
def out0_B_4 (c : Dev nD) (i : grid0.Coords) (arg2 : Memref sig .tc .vmem S1024x8192 .bf16) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1024x256 .f32) (harg5 : arg5.IsWhole) (arg6 : Memref sig .tc .vmem S1024x1 .f32) (harg6 : arg6.IsWhole) (hc0 : ¬cond0_0 i) (hc1 : cond0_1 i)
    (x0 : Vec F S1024x8192 .bf16) (x1 : Vec F S8192x256 .f32) (x2 : Vec F S8192x256 .f32) (xo4 : Vec F S1024x1 .f32) : Vec F S1024x1 .f32 :=
  VO0_4.read (Elt F) (VO0_4.writes (Elt F) VO0_4.junk (kernelRun0_B c i arg2 harg2 arg3 harg3 arg4 harg4 arg5 harg5 arg6 harg6 hc0 hc1 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x256 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩))
  | n + 1, hn =>
    if h0 : (n + 1) % 64 = 0 then
      if h1 : 1 ≤ (n + 1) % 64 then
        False.elim (by have hN : n + 1 < 256 := lt_of_lt_of_eq hn (show cfg0.N = 256 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩))
    else
      if h1 : 1 ≤ (n + 1) % 64 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (outsAt0 c n (Nat.lt_of_succ_lt hn)).2)
      else
        False.elim (by have hN : n + 1 < 256 := lt_of_lt_of_eq hn (show cfg0.N = 256 from N_0); omega)

/-- `outsAt0` at a point of case A: that case's contents. -/
theorem outsAt0_A (c : Dev nD) (t : Fin cfg0.N) (h0 : t.val % 64 = 0) (h1 : ¬1 ≤ t.val % 64) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t) (iblk V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : 1 ≤ t.val % 64) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk V c 0 t) (iblk V c 1 t) (iblk V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
    | ⟨4, _⟩ => (outsAt0 V c t.val t.isLt).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = (outsAt0 V c t.val t.isLt).1 := by dsimp only [dat]
theorem after0_4 (c : Dev nD) (t : Fin cfg0.N) : (dat V c).after 4 t = (outsAt0 V c t.val t.isLt).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dat V c).after 4 t = (dat V c).after 4 ⟨t.val - 1, by omega⟩ := by
  intro t _ hi _
  have hN : t.val < 256 := lt_of_lt_of_eq t.isLt (show cfg0.N = 256 from N_0)
  rw [after0_4, after0_4]
  by_cases h0 : t.val % 64 = 0
  · by_cases h1 : 1 ≤ t.val % 64
    · exfalso; omega
    · rw [liveAt0_4_A t ((hcond0_0 t).mpr h0) (fun h => h1 ((hcond0_1 t).mp h))] at hi
      exact absurd hi Bool.false_ne_true
  · by_cases h1 : 1 ≤ t.val % 64
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 64 = 0) (h1 : 1 ≤ t.val % 64) (d) :
    (dat V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).Φ t.succ = (dat V c).Φ t.castSucc from rfl,
    show (dat V c).owesAt () t.succ = (dat V c).owesAt () t.castSucc from rfl]
  have hN : t.val < 256 := lt_of_lt_of_eq t.isLt (show cfg0.N = 256 from N_0)
  by_cases h0 : t.val % 64 = 0
  · by_cases h1 : 1 ≤ t.val % 64
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 64
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.WholeIdeal.R0

end
-- ==== Proof.WholeIdealRegion1.lean ====
/-
  The second call of the whole program (exponents by comparisons, scales, codes), entered from any contents `V` of the
  unscoped buffers: what its body leaves in its outputs, the proof data of its pipeline and the body obligation.
-/
module

public import proofs.«01_k».proof.Proof.Gen.WholeIdeal.Skeleton
public import proofs.«01_k».proof.Proof.Gen.WholeIdeal.Launch
public import proofs.«01_k».proof.Proof.Gen.WholeIdeal.Points
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.WordCmp
public import Idealize.ShloMosaic.Lib.Tactic

@[expose] public section

set_option maxRecDepth 16384

noncomputable section

namespace Cert.WholeIdeal.R1

open Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x1 := Rect.unit (s := S128x1) ![0, 0] S128x1.size inb_S128x1_S128x1_0_0
abbrev r0_1 : Rect S128x16384 := Rect.unit (s := S128x16384) ![0, 0] S128x16384.size inb_S128x16384_S128x16384_0_0

/-! ## What the body leaves in each output window's buffer -/

/-- The exponents the body finds, from the row maxima's block. -/
def expo (x1 : Vec F S128x1 .f32) : IVec S128x1 32 :=
  k1_pay7 (k1_pay2 (View.ld x1 r0_0)) (k1_pay3 (View.ld x1 r0_0)) (k1_pay4 (View.ld x1 r0_0)) (k1_pay5 (View.ld x1 r0_0)) k1_pay6

/-- The codes' staging buffer after the body, from the input windows' blocks: its one store as a piece. -/
def out0_2 (x0 : Vec F S128x16384 .f32) (x1 : Vec F S128x1 .f32) : Vec F S128x16384 .fp8e4m3 :=
  View.canon [⟨r0_1, k1_pay1 (expo x1) k1_pay9 (View.ld x0 r0_1)⟩]

/-- Its store covers the buffer. -/
theorem cover0_2 (p0 : Vec F S128x16384 .fp8e4m3) (y : S128x16384.Idx) :
    ∃ pc ∈ ([⟨r0_1, p0⟩] : List (View.Piece (Elt F) S128x16384 .fp8e4m3)), y ∈ pc.1.set :=
  View.cover_of_tiled [⟨r0_1, p0⟩] S128x16384.size (by rfl) y

/-- The scales' staging buffer after the body, from the row maxima's block: its one store as a piece. -/
def out0_3 (x1 : Vec F S128x1 .f32) : Vec F S128x1 .f32 :=
  View.canon [⟨r0_0, k1_pay8 (k1_pay2 (View.ld x1 r0_0)) (k1_pay3 (View.ld x1 r0_0)) (k1_pay4 (View.ld x1 r0_0)) (k1_pay5 (View.ld x1 r0_0)) k1_pay6⟩]

/-- Its store covers the buffer. -/
theorem cover0_3 (p0 : Vec F S128x1 .f32) (y : S128x1.Idx) :
    ∃ pc ∈ ([⟨r0_0, p0⟩] : List (View.Piece (Elt F) S128x1 .f32)), y ∈ pc.1.set :=
  View.cover_of_tiled [⟨r0_0, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid1.Coords) (arg1 : Memref sig .tc .vmem S128x16384 .f32) (harg1 : arg1.IsWhole) (arg2 : Memref sig .tc .vmem S128x1 .f32) (harg2 : arg2.IsWhole) (arg3 : Memref sig .tc .vmem S128x16384 .fp8e4m3) (harg3 : arg3.IsWhole) (arg4 : Memref sig .tc .vmem S128x1 .f32) (harg4 : arg4.IsWhole)
    (x0 : Vec F S128x16384 .f32) (x1 : Vec F S128x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x1)) -∗ K ⟨⟩))
      ⊢ wp frame (wpE (defs₀ (F := F)) Variants.none c none) E (cc1_fp8_quant i arg1 harg1 arg2 harg2 arg3 harg3 arg4 harg4) K := by
  simp only [cc1_fp8_quant_eq_skeleton]; unfold cc1_fp8_quant_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

/-! ## The pipeline's proof data -/

/-- The proof data of the pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 1 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`, never `rfl`: Lib/Pipeline.lean `Dat`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = out0_2 (iblk V c 0 t) (iblk V c 1 t) := by dsimp only [dat]
theorem after0_3 (c : Dev nD) (t : Fin cfg1.N) : (dat V c).after 3 t = out0_3 (iblk V c 1 t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks (`before0_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.WholeIdeal.R1

end
-- ==== Proof.WholeIdealRun.lean ====
/-
  The whole program run end to end: the two calls as regions of @main between the host's reshapes, entered one after
  the other, and what every final state then holds: the three results, both arguments, every semaphore counter.
-/
module

public import proofs.«01_k».proof.Proof.Gen.WholeIdeal.Regions
public import proofs.«01_k».proof.Proof.WholeIdealRegion0
public import proofs.«01_k».proof.Proof.WholeIdealRegion1
public import Idealize.ShloMosaic.Lib.Pipeline.RegionsLoop

@[expose] public section

noncomputable section

namespace Cert.WholeIdeal.Run

open Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers as the first call finds them, read per TensorCore reference. -/
abbrev A1 (c : Dev nD) (b : Ref sig .tc) : Buf (Elt F) ((c : Thread nD τ).loc b) := V1 m c b

/-- The unscoped buffers after the first call: its two output arrays at what its pipeline leaves. -/
abbrev W2 (c : Dev nD) : Valuation τ sig (Elt F) :=
  Function.update (Function.update (V1 m c) main_v2_0 ((R0.dat (A1 m) c).arrAt 3 cfg0.N)) main_v2_1 ((R0.dat (A1 m) c).arrAt 4 cfg0.N)

/-- The unscoped buffers as the second call finds them, read per TensorCore reference. -/
abbrev A2 (c : Dev nD) (b : Ref sig .tc) : Buf (Elt F) ((c : Thread nD τ).loc b) := W2 m c b

/-- The unscoped buffers after the second call: its two output arrays at what its pipeline leaves. -/
abbrev W3 (c : Dev nD) : Valuation τ sig (Elt F) :=
  Function.update (Function.update (W2 m c) main_v3_0 ((R1.dat (A2 m) c).arrAt 2 cfg1.N)) main_v3_1 ((R1.dat (A2 m) c).arrAt 3 cfg1.N)

/-- The unscoped buffers after the second call, read per TensorCore reference. -/
abbrev A3 (c : Dev nD) (b : Ref sig .tc) : Buf (Elt F) ((c : Thread nD τ).loc b) := W3 m c b

/-- What the two calls leave in the buffers they may change. -/
def outs : Outs (F := F) := fun J r c => if J = 2 then W2 m c r else W3 m c r

theorem ne_21_20 : (Proc.devRef .tc main_v2_0 : DevRef τ sig) ≠ Proc.devRef .tc main_v2_1 := by decide
theorem ne_31_30 : (Proc.devRef .tc main_v3_0 : DevRef τ sig) ≠ Proc.devRef .tc main_v3_1 := by decide

theorem W2_20 (c : Dev nD) : W2 m c main_v2_0 = (R0.dat (A1 m) c).arrAt 3 cfg0.N :=
  (Function.update_of_ne ne_21_20 _ _).trans (Function.update_self ..)
theorem W2_21 (c : Dev nD) : W2 m c main_v2_1 = (R0.dat (A1 m) c).arrAt 4 cfg0.N := Function.update_self ..
theorem W3_30 (c : Dev nD) : W3 m c main_v3_0 = (R1.dat (A2 m) c).arrAt 2 cfg1.N :=
  (Function.update_of_ne ne_31_30 _ _).trans (Function.update_self ..)
theorem W3_31 (c : Dev nD) : W3 m c main_v3_1 = (R1.dat (A2 m) c).arrAt 3 cfg1.N := Function.update_self ..

/-- Off its two outputs the first call changes nothing. -/
theorem W2_of (c : Dev nD) (r : Ref sig .tc) (h0 : r ≠ main_v2_0) (h1 : r ≠ main_v2_1) : W2 m c r = V1 m c r :=
  (Function.update_of_ne (StableHlo.devRef_ne_of_ne h1) _ _).trans (Function.update_of_ne (StableHlo.devRef_ne_of_ne h0) _ _)
/-- Off its two outputs the second call changes nothing. -/
theorem W3_of (c : Dev nD) (r : Ref sig .tc) (h0 : r ≠ main_v3_0) (h1 : r ≠ main_v3_1) : W3 m c r = W2 m c r :=
  (Function.update_of_ne (StableHlo.devRef_ne_of_ne h1) _ _).trans (Function.update_of_ne (StableHlo.devRef_ne_of_ne h0) _ _)

theorem outs_2 (r : Ref sig .tc) (c : Dev nD) : outs m 2 r c = W2 m c r := if_pos rfl
theorem outs_3 (r : Ref sig .tc) (c : Dev nD) : outs m 3 r c = W3 m c r := if_neg (by decide)

/-- The generated valuation after the first call, at these contents. -/
theorem V2_eq (c : Dev nD) : V2 m (outs m) c = W2 m c :=
  congrArg₂ (fun x y => Function.update (Function.update (V1 m c) main_v2_0 x) main_v2_1 y)
    ((outs_2 m main_v2_0 c).trans (W2_20 m c)) ((outs_2 m main_v2_1 c).trans (W2_21 m c))
/-- The generated valuation after the second call, at these contents. -/
theorem V3_eq (c : Dev nD) : V3 m (outs m) c = W3 m c :=
  (congrArg₂ (fun x y => Function.update (Function.update (V2 m (outs m) c) main_v3_0 x) main_v3_1 y)
    ((outs_3 m main_v3_0 c).trans (W3_30 m c)) ((outs_3 m main_v3_1 c).trans (W3_31 m c))).trans
    (congrArg (fun v : Valuation τ sig (Elt F) => Function.update (Function.update v main_v3_0 ((R1.dat (A2 m) c).arrAt 2 cfg1.N)) main_v3_1 ((R1.dat (A2 m) c).arrAt 3 cfg1.N)) (V2_eq m c))

/-! ## The two calls as regions -/

/-- The proof data of the two pipelines. -/
def pdats : (p : Fin 2) → (c : Dev nD) → Dat τ (Elt F) Unit ℕ (UR sig nD τ) ℕ (cfgs p) c
  | ⟨0, _⟩ => fun c => R0.dat (A1 m) c
  | ⟨1, _⟩ => fun c => R1.dat (A2 m) c

/-- No core owes another anything: no level is assigned. -/
abbrev L : GSem nD τ sig → Finset Unit := fun _ => ∅
abbrev lv : GSem nD τ sig → Unit → ℕ := fun _ _ => 0

/-- What rides along beside the unscoped buffers: the generator register, and that nothing is owed. -/
def E (_ : Fin 3) (c : Dev nD) : sProp 𝕄 :=
  iprop((∃ r, prngReg c r) ∗ ∃ W, owes (c : Thread nD τ) (0 : CellTallies nD τ sig Unit) W)

set_option backward.isDefEq.respectTransparency.types false in
/-- The first call as a region: its arrays (two windows read halves of one weight array) split out of the unscoped
    buffers, and put back with the outputs at what the pipeline leaves. -/
def reg0 : RegionSeg (pcfgs (F := F)) adm (pdats m) () defs₀ Variants.none L lv 0 where
  win := launch₀0.win
  block_pos := launch₀0.block_pos
  stage_whole := launch₀0.stage_whole
  K := PEmpty
  osem k := k.elim
  ho := Pipeline.OwnSemFacts.none _
  hbody c := (R0.body_obligation (A1 m) c).loose
  hwaits := Pipeline.hwaits_of_owed_zero _ _ _ _ L lv 0 fun _ _ => rfl
  pre c := iprop(unscopedBufs c (A1 m c) ∗ E 0 c)
  post c := iprop(unscopedBufs c (A2 m c) ∗ E 1 c)
  X c := iprop(∃ r, prngReg c r)
  Y c := iprop(∃ r, prngReg c r)
  Z c := Pipeline.unscopedRest (Ix := Unit) (Name := ℕ) (U := UR sig nD τ) (Lvl := ℕ) spec0 c (A1 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (A1 m c) fun _ => rfl
    unfold E
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 0 c).Φ 0 = Pipeline.ΦA spec0 c from rfl]
    unfold Pipeline.ΦA
    iintro ⟨HR, -, Hr⟩
    isplitl [Hr]; · iexact Hr
    iexact HR
  hout c := by
    rw [Pipeline.ownSems0_none, show (pdats m 0 c).Φ (Fin.last _) = Pipeline.ΦA spec0 c from rfl]
    unfold Pipeline.ΦA
    iintro ⟨Hr, HR⟩
    isplitl [HR]; · iexact HR
    isplitr; · iempintro
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      (pdats m) (fun _ _ => rfl) (A1 m c) (A2 m c) ((pdats m 0 c).arrAt · cfg0.N)
      (fun w => by
        fin_cases w
        · exact ((pdats m 0 c).arrAt_in 0 rfl _).trans (W2_of m c main_v1 (by decide) (by decide)).symm
        · exact ((pdats m 0 c).arrAt_in 1 rfl _).trans (W2_of m c main_arg1 (by decide) (by decide)).symm
        · exact ((pdats m 0 c).arrAt_in 2 rfl _).trans (W2_of m c main_arg1 (by decide) (by decide)).symm
        · exact (W2_20 m c).symm
        · exact (W2_21 m c).symm)
      (fun b hb => W2_of m c b (fun h => hb (h ▸ Finset.mem_image.mpr ⟨3, Finset.mem_univ _, rfl⟩))
        (fun h => hb (h ▸ Finset.mem_image.mpr ⟨4, Finset.mem_univ _, rfl⟩)))
    unfold E
    iintro ⟨Ha, HO, HR, Hrest⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The second call as a region: its four arrays split out of the unscoped buffers, and put back with the outputs at
    what the pipeline leaves. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (A2 m) c).loose
  hwaits := Pipeline.hwaits_of_owed_zero _ _ _ _ L lv 1 fun _ _ => rfl
  pre c := iprop(unscopedBufs c (A2 m c) ∗ E 1 c)
  post c := iprop(unscopedBufs c (A3 m c) ∗ E 2 c)
  X c := iprop(∃ r, prngReg c r)
  Y c := iprop(∃ r, prngReg c r)
  Z c := Pipeline.unscopedRest (Ix := Unit) (Name := ℕ) (U := UR sig nD τ) (Lvl := ℕ) spec1 c (A2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A2 m c) fun _ => rfl
    unfold E
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 1 c).Φ 0 = Pipeline.ΦA spec1 c from rfl]
    unfold Pipeline.ΦA
    iintro ⟨HR, -, Hr⟩
    isplitl [Hr]; · iexact Hr
    iexact HR
  hout c := by
    rw [Pipeline.ownSems0_none, show (pdats m 1 c).Φ (Fin.last _) = Pipeline.ΦA spec1 c from rfl]
    unfold Pipeline.ΦA
    iintro ⟨Hr, HR⟩
    isplitl [HR]; · iexact HR
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (A2 m c) (A3 m c) ((pdats m 1 c).arrAt · cfg1.N)
      (fun w => by
        fin_cases w
        · exact ((pdats m 1 c).arrAt_in 0 rfl _).trans (W3_of m c main_v2_0 (by decide) (by decide)).symm
        · exact ((pdats m 1 c).arrAt_in 1 rfl _).trans (W3_of m c main_v2_1 (by decide) (by decide)).symm
        · exact (W3_30 m c).symm
        · exact (W3_31 m c).symm)
      (fun b hb => W3_of m c b (fun h => hb (h ▸ Finset.mem_image.mpr ⟨2, Finset.mem_univ _, rfl⟩))
        (fun h => hb (h ▸ Finset.mem_image.mpr ⟨3, Finset.mem_univ _, rfl⟩)))
    unfold E
    iintro ⟨Ha, HO, HR, Hrest⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

/-! ## The run -/

/-- The thread state before the first call, in the region's spelling. -/
theorem hpre0 (c : Dev nD) : (iprop(StableHlo.held (c : Thread nD τ) (Pipeline.ucRefs τ sig) (V1 m c) ∗ E 0 c) : sProp 𝕄) ⊢ (reg0 m).pre c :=
  sep_mono (Entails.of_eq (Pipeline.unscopedBufs_held (Ix := Unit) (Name := ℕ) (U := UR sig nD τ) (Lvl := ℕ) c (V1 m c)).symm) .rfl
/-- The first call leaves the second call's thread state. -/
theorem hpost0 (c : Dev nD) : (reg0 m).post c ⊢ (reg1 m).pre c := .rfl
/-- The second call leaves the last host stretch's thread state. -/
theorem hpost1 (c : Dev nD) : (reg1 m).post c ⊢ (iprop(StableHlo.held (c : Thread nD τ) (Pipeline.ucRefs τ sig) (V3 m (outs m) c) ∗ E 2 c) : sProp 𝕄) := by
  rw [V3_eq]
  exact sep_mono (Entails.of_eq (Pipeline.unscopedBufs_held (Ix := Unit) (Name := ℕ) (U := UR sig nD τ) (Lvl := ℕ) c (W3 m c))) .rfl
/-- What rides along at the end says that nothing is owed. -/
theorem hE2 (c : Dev nD) : (E 2 c : sProp 𝕄) ⊢ iprop(∃ W, owes (c : Thread nD τ) (0 : CellTallies nD τ sig Unit) W) := by
  unfold E
  iintro ⟨-, H⟩; iexact H

/-- The unscoped buffers at the end: the second call's, then the three reshapes. -/
abbrev W4 (c : Dev nD) : Valuation τ sig (Elt F) := StableHlo.after hostOps2 (W3 m c)

set_option backward.isDefEq.respectTransparency.types false in
/-- THE RUN: from any memory with zero counters every weakly fair execution of @main terminates; every final state holds
    the three results at `W4`, both arguments as launched, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v4) = W4 m c main_v4
      ∧ r.2.mem ((c.tc : Thread nD τ).loc main_v5) = W4 m c main_v5
      ∧ r.2.mem ((c.tc : Thread nD τ).loc main_v6) = W4 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => (BI.emp : sProp 𝕄)) (initOf (Pipeline.cells cfgs cellOf_inj) (Pipeline.launchToks cfgs cellOf_inj)) ?hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨.rfl, hpre0 m c, hpost0 m c, hpost1 m c, sep_mono .rfl (hE2 c)⟩)
    (hinit := ?hinit) (QY := fun c s => s.mem ((c.tc : Thread nD τ).loc main_v4) = W4 m c main_v4
      ∧ s.mem ((c.tc : Thread nD τ).loc main_v5) = W4 m c main_v5
      ∧ s.mem ((c.tc : Thread nD τ).loc main_v6) = W4 m c main_v6
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?hfin) (hQ := fun _ h hz => ⟨h, funext fun g => hz g (.inr (regions_no_unscoped g.2))⟩)
  case hu₀ =>
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hinit =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(StableHlo.held (c : Thread nD τ) (Pipeline.ucRefs τ sig) (V0 m c) ∗ E 0 c) : sProp 𝕄) :=
      bigSep_mono fun c _ => by
        rw [← Pipeline.unscopedBufs_held (Ix := Unit) (Name := ℕ) (U := UR sig nD τ) (Lvl := ℕ) c (V0 m c)]
        unfold E
        show _ ⊢ (iprop(unscopedBufs c (fun b => V0 m c b) ∗ (∃ r, prngReg c r) ∗ ∃ W, owes (c : Thread nD τ) (0 : CellTallies nD τ sig Unit) W) : sProp 𝕄)
        iintro ⟨Hb, -, Ho, -, Hp, -⟩
        isplitl [Hb]; · iexact Hb
        isplitl [Hp]; · iexists _; iexact Hp
        iexists _; iexact Ho
    iintro ⟨H, -⟩
    imodintro
    iapply hsplit; iexact H
  case hfin =>
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have e : V4 m (outs m) c = W4 m c := by show StableHlo.after hostOps2 (V3 m (outs m) c) = _; rw [V3_eq]
      rw [← e]
      exact ⟨h (Proc.devRef .tc main_v4) (Finset.mem_filter.mpr ⟨StableHlo.devRef_mem_tcRefs main_v4, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩
    · iexact HSI

/-- The frame: the arguments end unchanged and every semaphore counter reads zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2.2, h.2⟩) (run m ρ)

end Cert.WholeIdeal.Run

end
-- ==== Proof.WholeIdealProj.lean ====
/-
  The whole program's first call over the reals: entered after the host's reshape and rounding, its two output arrays
  are `h` and the row maxima of the arguments, as the single-call claim has them (`ProjSpec`).
-/
module

public import proofs.«01_k».proof.Proof.ProjValue
public import proofs.«01_k».proof.Proof.WholeIdealRun
public import Idealize.ShloMosaic.Lib.Pipeline.Value
public import Idealize.ShloMosaic.Lib.MatmulPlain

@[expose] public section

set_option maxRecDepth 16384

noncomputable section

open Idealize.ShloMosaic Idealize.ShloMosaic.TcCoe Idealize.SL.Sem
open Idealize.ShloMosaic.Pipeline (Dat)

namespace Cert.WholeIdeal.Blocks

open Cert.WholeIdeal Cert.WholeIdeal.Gen Cert.WholeIdeal.R0 Cert.ProjSpec

/-- A block's product read at a row and a column. -/
theorem matmul_apply (a : FVec Ideal S1024x8192 .bf16) (b : FVec Ideal S8192x256 .bf16) (p : Fin 1024) (q : Fin 256) :
    matmul dot_S1024x8192_S8192x256_S1024x256_1_0_0_1_n_n none a b (constant S1024x256 .f32 0x00000000#32) (ix2 p q)
      = ∑ k : Fin 8192, a (ix2 p k) * b (ix2 k q) := by
  have h := Ideal.matmul_plain_apply none a b (constant S1024x256 .f32 0x00000000#32) p q
  refine Eq.trans ?_ (h.trans ?_)
  · rfl
  · have hz : (constant S1024x256 .f32 0x00000000#32 : FVec Ideal S1024x256 .f32) (ValueIdx.ix2 p q) = (0 : EReal) := by
      show Ideal.ofBits .f32 0x00000000#32 = 0
      simp [Ideal.ofBits, Ideal.ieee]
    rw [hz]
    exact zero_add _

/-- The block of `h` at a row and a column. -/
theorem pay1_apply (v0 : Vec Ideal S1024x8192 .bf16) (v2 v5 : Vec Ideal S8192x256 .f32) (p : Fin 1024) (q : Fin 256) :
    k0_pay1 v0 v2 v5 (ix2 p q)
      = swiglu (∑ k : Fin 8192, v0 (ix2 p k) * v2 (ix2 k q)) (∑ k : Fin 8192, v0 (ix2 p k) * v5 (ix2 k q)) := by
  unfold k0_pay1
  rw [shapeCast_self]
  have h1 := matmul_apply v0 (truncf .bf16 v2 bitsLt_bf16_f32) p q
  have h2 := matmul_apply v0 (truncf .bf16 v5 bitsLt_bf16_f32) p q
  refine Eq.trans ?_ (congrArg₂ swiglu h1 h2)
  rfl

/-- The greatest absolute value of a row of the block. -/
theorem pay2_apply (v0 : Vec Ideal S1024x8192 .bf16) (v2 v5 : Vec Ideal S8192x256 .f32) (p : Fin 1024) (u : Fin 1) :
    k0_pay2 v0 v2 v5 (ix2 p u)
      = Finset.univ.sup fun q : Fin 256 => max (k0_pay1 v0 v2 v5 (ix2 p q)) (-(k0_pay1 v0 v2 v5 (ix2 p q))) := by
  unfold k0_pay2
  refine (ValueIdx.shapeCast_a_a1_apply _ _ p u).trans ?_
  refine (Ideal.multiReduction_maximumf_single (a := 1) _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  unfold Finset.sup
  refine Finset.fold_congr fun (q : Fin 256) _ => ?_
  have hl : reduces_S1024x256_S1024.lift (ValueIdx.ix1 p) q = ix2 p q := by
    funext a; apply Fin.ext
    match a with
    | ⟨0, _⟩ => rfl
    | ⟨1, _⟩ => rfl
  show max (k0_pay1 v0 v2 v5 (reduces_S1024x256_S1024.lift (ValueIdx.ix1 p) q)) (-(k0_pay1 v0 v2 v5 (reduces_S1024x256_S1024.lift (ValueIdx.ix1 p) q))) = _
  rw [hl]

/-- The maxima after a later block of columns: the greater of those before and the block's. -/
theorem pay3_apply (v0 : Vec Ideal S1024x8192 .bf16) (v2 v5 : Vec Ideal S8192x256 .f32) (o : Vec Ideal S1024x1 .f32) (y : S1024x1.Idx) :
    k0_pay3 v0 v2 v5 o y = max (o y) (k0_pay2 v0 v2 v5 y) := by
  unfold k0_pay3
  rw [shapeCast_self]
  rfl

section Outs
variable {F : FTy → Type} [FloatOps F]

theorem hz : (![0, 0] : Fin 2 → Nat) = fun _ => 0 := funext fun a => by fin_cases a <;> rfl

variable (c : Dev nD) (i : grid0.Coords) (arg2 : Memref sig .tc .vmem S1024x8192 .bf16) (harg2 : arg2.IsWhole)
  (arg3 : Memref sig .tc .vmem S8192x256 .f32) (harg3 : arg3.IsWhole) (arg4 : Memref sig .tc .vmem S8192x256 .f32) (harg4 : arg4.IsWhole)
  (arg5 : Memref sig .tc .vmem S1024x256 .f32) (harg5 : arg5.IsWhole) (arg6 : Memref sig .tc .vmem S1024x1 .f32) (harg6 : arg6.IsWhole)
  (x0 : Vec F S1024x8192 .bf16) (x1 x2 : Vec F S8192x256 .f32) (xo : Vec F S1024x1 .f32)

/-- At a row block's first column block the body leaves the block of `h`. -/
theorem out_A_3 (h0) (h1) : out0_A_3 c i arg2 harg2 arg3 harg3 arg4 harg4 arg5 harg5 arg6 harg6 h0 h1 x0 x1 x2 = k0_pay1 x0 x1 x2 := by
  unfold out0_A_3
  rw [View.read_writes_eq_canon _ _ _ (cover0_A_3 c i arg2 harg2 arg3 harg3 arg4 harg4 arg5 harg5 arg6 harg6 h0 h1 x0 x1 x2)]
  unfold kernelRun0_A
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- There it leaves the block's row maxima. -/
theorem out_A_4 (h0) (h1) : out0_A_4 c i arg2 harg2 arg3 harg3 arg4 harg4 arg5 harg5 arg6 harg6 h0 h1 x0 x1 x2 = k0_pay2 x0 x1 x2 := by
  unfold out0_A_4
  rw [View.read_writes_eq_canon _ _ _ (cover0_A_4 c i arg2 harg2 arg3 harg3 arg4 harg4 arg5 harg5 arg6 harg6 h0 h1 x0 x1 x2)]
  unfold kernelRun0_A
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- At a later column block it leaves the block of `h`. -/
theorem out_B_3 (h0) (h1) : out0_B_3 c i arg2 harg2 arg3 harg3 arg4 harg4 arg5 harg5 arg6 harg6 h0 h1 x0 x1 x2 xo = k0_pay1 x0 x1 x2 := by
  unfold out0_B_3
  rw [View.read_writes_eq_canon _ _ _ (cover0_B_3 c i arg2 harg2 arg3 harg3 arg4 harg4 arg5 harg5 arg6 harg6 h0 h1 x0 x1 x2 xo)]
  unfold kernelRun0_B
  dsimp only
  sl_unfold_words
  rw [View.canon_unit_zero hz]
  simp only [View.readAt_eq_ld, harg2.read_unread, harg3.read_unread, harg4.read_unread, View.ld_unit_zero (S := S1024x8192) hz, View.ld_unit_zero (S := S8192x256) hz]

/-- There it leaves the greater of the maxima before and the block's. -/
theorem out_B_4 (h0) (h1) : out0_B_4 c i arg2 harg2 arg3 harg3 arg4 harg4 arg5 harg5 arg6 harg6 h0 h1 x0 x1 x2 xo = k0_pay3 x0 x1 x2 xo := by
  unfold out0_B_4
  rw [View.read_writes_eq_canon _ _ _ (cover0_B_4 c i arg2 harg2 arg3 harg3 arg4 harg4 arg5 harg5 arg6 harg6 h0 h1 x0 x1 x2 xo)]
  unfold kernelRun0_B
  dsimp only
  sl_unfold_words
  rw [View.canon_unit_zero hz]
  simp only [View.readAt_eq_ld, harg2.read_unread, harg3.read_unread, harg4.read_unread, harg6.read_unread, View.ld_unit_zero (S := S1024x8192) hz, View.ld_unit_zero (S := S8192x256) hz, View.ld_unit_zero (S := S1024x1) hz]

end Outs

variable (m : (ℓ : Loc nD τ sig) → Buf (Elt Ideal) ℓ)

/-- The activations a device starts from. -/
abbrev xOf (c : Dev nD) : X := m ((c : Thread nD τ).loc main_arg0)
/-- The weights a device starts from. -/
abbrev wOf (c : Dev nD) : W := m ((c : Thread nD τ).loc main_arg1)

/-- Which block of its array each window is on at point `t`. -/
theorem idx_facts : ∀ t : Fin cfg0.N,
    (win0_0.index t 0 = t.val / 64 ∧ win0_0.index t 1 = 0) ∧ (win0_1.index t 0 = 0 ∧ win0_1.index t 1 = t.val % 64)
      ∧ (win0_2.index t 0 = 0 ∧ win0_2.index t 1 = t.val % 64 + 64) ∧ (win0_3.index t 0 = t.val / 64 ∧ win0_3.index t 1 = t.val % 64)
      ∧ (win0_4.index t 0 = t.val / 64 ∧ win0_4.index t 1 = 0) :=
  (by decide +kernel : ∀ t : Fin grid0.N,
    (win0_0.index t 0 = t.val / 64 ∧ win0_0.index t 1 = 0) ∧ (win0_1.index t 0 = 0 ∧ win0_1.index t 1 = t.val % 64)
      ∧ (win0_2.index t 0 = 0 ∧ win0_2.index t 1 = t.val % 64 + 64) ∧ (win0_3.index t 0 = t.val / 64 ∧ win0_3.index t 1 = t.val % 64)
      ∧ (win0_4.index t 0 = t.val / 64 ∧ win0_4.index t 1 = 0))

/-- What the region starts from in the rounded activations: the activations, their batch axis dropped. -/
theorem V_rows (c : Dev nD) (r : Fin 4096) (k : Fin 8192) :
    (V1 m c main_v1 : FVec Ideal S4096x8192 .bf16) (ix2 r k) = xOf m c (ix3 0 r k) := by
  have h : (V1 m c main_v1 : FVec Ideal S4096x8192 .bf16)
      = truncf .bf16 (shapeCast S4096x8192 (xOf m c) shapeCasts_S1x4096x8192_S4096x8192) bitsLt_bf16_f32 := by
    delta V1
    entry_read
    rfl
  rw [h]
  exact ValueIdx.shapeCast_1ab_ab_apply (xOf m c) shapeCasts_S1x4096x8192_S4096x8192 r k

/-- The block of rows at point `t`: the activations' rows from `1024 (t / 64)` on. -/
theorem iblk_0_apply (c : Dev nD) (t : Fin cfg0.N) (p : Fin 1024) (k : Fin 8192) (r : Fin 4096)
    (hr : r.val = t.val / 64 * 1024 + p.val) :
    (iblk (Run.A1 m) c 0 t : Vec Ideal S1024x8192 .bf16) (ix2 p k) = xOf m c (ix3 0 r k) := by
  rw [← V_rows]
  unfold iblk
  rw [View.read_apply]
  show V1 m c main_v1 _ = V1 m c main_v1 (ix2 r k)
  congr 1
  funext a
  apply Fin.ext
  match a with
  | ⟨0, _⟩ => show win0_0.index t 0 * 1024 + 1 * p.val = r.val; rw [(idx_facts t).1.1]; omega
  | ⟨1, _⟩ => show win0_0.index t 1 * 8192 + 1 * k.val = k.val; rw [(idx_facts t).1.2]; omega

/-- The block of gate columns at point `t`. -/
theorem iblk_1_apply (c : Dev nD) (t : Fin cfg0.N) (k : Fin 8192) (q : Fin 256) (f : Fin 32768)
    (hf : f.val = t.val % 64 * 256 + q.val) :
    (iblk (Run.A1 m) c 1 t : Vec Ideal S8192x256 .f32) (ix2 k q) = wOf m c (ix2 k f) := by
  unfold iblk
  rw [View.read_apply]
  show V1 m c main_arg1 _ = wOf m c (ix2 k f)
  rw [show V1 m c main_arg1 = wOf m c from V1_of m c main_arg1 (by decide)]
  show wOf m c _ = wOf m c (ix2 k f)
  congr 1
  funext a
  apply Fin.ext
  match a with
  | ⟨0, _⟩ => show win0_1.index t 0 * 8192 + 1 * k.val = k.val; rw [(idx_facts t).2.1.1]; omega
  | ⟨1, _⟩ => show win0_1.index t 1 * 256 + 1 * q.val = f.val; rw [(idx_facts t).2.1.2]; omega

/-- The block of up columns at point `t`. -/
theorem iblk_2_apply (c : Dev nD) (t : Fin cfg0.N) (k : Fin 8192) (q : Fin 256) (f : Fin 32768)
    (hf : f.val = 16384 + (t.val % 64 * 256 + q.val)) :
    (iblk (Run.A1 m) c 2 t : Vec Ideal S8192x256 .f32) (ix2 k q) = wOf m c (ix2 k f) := by
  unfold iblk
  rw [View.read_apply]
  show V1 m c main_arg1 _ = wOf m c (ix2 k f)
  rw [show V1 m c main_arg1 = wOf m c from V1_of m c main_arg1 (by decide)]
  show wOf m c _ = wOf m c (ix2 k f)
  congr 1
  funext a
  apply Fin.ext
  match a with
  | ⟨0, _⟩ => show win0_2.index t 0 * 8192 + 1 * k.val = k.val; rw [(idx_facts t).2.2.1.1]; omega
  | ⟨1, _⟩ => show win0_2.index t 1 * 256 + 1 * q.val = f.val; rw [(idx_facts t).2.2.1.2]; omega

/-- The block of `h` point `t` computes is `h` at its rows and columns. -/
theorem block_apply (c : Dev nD) (t : Fin cfg0.N) (p : Fin 1024) (q : Fin 256) (r : Fin 4096) (f : Fin 16384)
    (hr : r.val = t.val / 64 * 1024 + p.val) (hf : f.val = t.val % 64 * 256 + q.val) :
    k0_pay1 (iblk (Run.A1 m) c 0 t) (iblk (Run.A1 m) c 1 t) (iblk (Run.A1 m) c 2 t) (ix2 p q) = hAt (xOf m c) (wOf m c) r f := by
  refine (pay1_apply _ _ _ p q).trans ?_
  unfold hAt dotAt
  refine congrArg₂ swiglu (Finset.sum_congr rfl fun k _ => ?_) (Finset.sum_congr rfl fun k _ => ?_)
  · exact congrArg₂ (fun a b : EReal => a * b) (iblk_0_apply m c t p k r hr) (iblk_1_apply m c t k q _ hf)
  · exact congrArg₂ (fun a b : EReal => a * b) (iblk_0_apply m c t p k r hr) (iblk_2_apply m c t k q _ (by show 16384 + f.val = _; omega))

/-- The number of grid points. -/
theorem N_eq : cfg0.N = 256 := N_0

/-- The block of `h` each point leaves in its buffer. -/
theorem outs_h (c : Dev nD) (t : Fin cfg0.N) :
    (outsAt0 (Run.A1 m) c t.val t.isLt).1 = k0_pay1 (iblk (Run.A1 m) c 0 t) (iblk (Run.A1 m) c 1 t) (iblk (Run.A1 m) c 2 t) := by
  by_cases h0 : t.val % 64 = 0
  · rw [outsAt0_A (Run.A1 m) c t h0 (by omega), out_A_3]
  · rw [outsAt0_B (Run.A1 m) c t h0 (by omega), out_B_3]

/-- At a row block's first column block the maxima left are the block's. -/
theorem outs_first (c : Dev nD) (t : Fin cfg0.N) (h0 : t.val % 64 = 0) :
    (outsAt0 (Run.A1 m) c t.val t.isLt).2 = k0_pay2 (iblk (Run.A1 m) c 0 t) (iblk (Run.A1 m) c 1 t) (iblk (Run.A1 m) c 2 t) := by
  rw [outsAt0_A (Run.A1 m) c t h0 (by omega), out_A_4]

/-- At a later one they are the greater of those before and the block's. -/
theorem outs_later (c : Dev nD) (t : Fin cfg0.N) (h0 : ¬t.val % 64 = 0) :
    (outsAt0 (Run.A1 m) c t.val t.isLt).2 = k0_pay3 (iblk (Run.A1 m) c 0 t) (iblk (Run.A1 m) c 1 t) (iblk (Run.A1 m) c 2 t)
      (outsAt0 (Run.A1 m) c (t.val - 1) (Nat.lt_of_le_of_lt (Nat.sub_le _ _) t.isLt)).2 := by
  rw [outsAt0_B (Run.A1 m) c t h0 (by omega), out_B_4]

/-- The maxima left at a row block's first column block: over its 256 columns. -/
theorem amax_first (c : Dev nD) (t : Fin cfg0.N) (h0 : t.val % 64 = 0) (p : Fin 1024) (u : Fin 1) (r : Fin 4096)
    (hr : r.val = t.val / 64 * 1024 + p.val) :
    (outsAt0 (Run.A1 m) c t.val t.isLt).2 (ix2 p u) = partAt (xOf m c) (wOf m c) r ((t.val % 64 + 1) * 256) := by
  have hn : (t.val % 64 + 1) * 256 = 256 := by omega
  rw [outs_first m c t h0, pay2_apply, hn]
  refine partAt_one (xOf m c) (wOf m c) r _ fun q f hf => ?_
  rw [block_apply m c t p q r f hr (by omega)]

/-- The maxima left at a later column block, from those left before it. -/
theorem amax_later (c : Dev nD) (t : Fin cfg0.N) (h0 : ¬t.val % 64 = 0) (p : Fin 1024) (u : Fin 1) (r : Fin 4096)
    (hr : r.val = t.val / 64 * 1024 + p.val)
    (hp : (outsAt0 (Run.A1 m) c (t.val - 1) (Nat.lt_of_le_of_lt (Nat.sub_le _ _) t.isLt)).2 (ix2 p u) = partAt (xOf m c) (wOf m c) r (t.val % 64 * 256)) :
    (outsAt0 (Run.A1 m) c t.val t.isLt).2 (ix2 p u) = partAt (xOf m c) (wOf m c) r ((t.val % 64 + 1) * 256) := by
  rw [outs_later m c t h0, pay3_apply, pay2_apply, hp]
  refine partAt_succ (xOf m c) (wOf m c) r (t.val % 64) (by omega) _ fun q f hf => ?_
  rw [block_apply m c t p q r f hr hf]

/-- The maxima each point leaves: over the columns of its row block's column blocks so far. -/
theorem outs_amax (c : Dev nD) (p : Fin 1024) (u : Fin 1) : ∀ (n : Nat) (hn : n < cfg0.N) (r : Fin 4096), r.val = n / 64 * 1024 + p.val →
    (outsAt0 (Run.A1 m) c n hn).2 (ix2 p u) = partAt (xOf m c) (wOf m c) r ((n % 64 + 1) * 256) := by
  intro n
  induction n with
  | zero => exact fun hn r hr => amax_first m c ⟨0, hn⟩ (by rfl) p u r hr
  | succ n ih =>
    intro hn r hr
    by_cases h0 : (n + 1) % 64 = 0
    · exact amax_first m c ⟨n + 1, hn⟩ h0 p u r hr
    · refine amax_later m c ⟨n + 1, hn⟩ h0 p u r hr ?_
      have hk : (n + 1) % 64 = n % 64 + 1 := by omega
      have hp := ih (Nat.lt_of_succ_lt hn) r (by omega)
      rw [← hk] at hp
      exact hp

/-- The maxima left at a row block's last column block: over the whole rows. -/
theorem amax_last (c : Dev nD) (t : Fin cfg0.N) (h63 : t.val % 64 = 63) (p : Fin 1024) (u : Fin 1) (r : Fin 4096)
    (hr : r.val = t.val / 64 * 1024 + p.val) : (outsAt0 (Run.A1 m) c t.val t.isLt).2 (ix2 p u) = amaxAt (xOf m c) (wOf m c) r := by
  have hn : (t.val % 64 + 1) * 256 = 16384 := by omega
  rw [outs_amax m c p u t.val t.isLt r hr, hn, partAt_all]

attribute [local irreducible] Cert.ProjSpec.amaxAt

/-- `h` as contents of the first result. -/
abbrev hOf (c : Dev nD) : Buf (Elt Ideal) ((c : Thread nD τ).loc main_v2_0) := hArr (xOf m c) (wOf m c)
/-- The row maxima as contents of the second result. -/
abbrev amaxOf (c : Dev nD) : Buf (Elt Ideal) ((c : Thread nD τ).loc main_v2_1) := amaxArr (xOf m c) (wOf m c)

/-- Every point writes back its block of `h`. -/
theorem flushed_h (c : Dev nD) (t : Fin cfg0.N) : (dat (Run.A1 m) c).flushed 3 t = (win0_3.blk t).view.read (Elt Ideal) (hOf m c) := by
  show (cfg0.win 3).cut (grid0.coords t) ((dat (Run.A1 m) c).after 3 t) = _
  rw [after0_3, outs_h]
  funext y
  rw [View.read_apply]
  have e0 : ((win0_3.blk t).view.emb y 0 : Nat) = t.val / 64 * 1024 + (y 0).val := by
    show win0_3.index t 0 * 1024 + 1 * (y 0).val = _; rw [(idx_facts t).2.2.2.1.1]; omega
  have e1 : ((win0_3.blk t).view.emb y 1 : Nat) = t.val % 64 * 256 + (y 1).val := by
    show win0_3.index t 1 * 256 + 1 * (y 1).val = _; rw [(idx_facts t).2.2.2.1.2]; omega
  have hy : (y : S1024x256.Idx) = ix2 (y 0) (y 1) := by funext a; fin_cases a <;> rfl
  have hb := block_apply m c t (y 0) (y 1) ((win0_3.blk t).view.emb y 0) ((win0_3.blk t).view.emb y 1) e0 e1
  refine Eq.trans ?_ hb
  exact congrArg _ hy

/-- A row block's last point writes back its row maxima. -/
theorem flushed_amax (c : Dev nD) (t : Fin cfg0.N) (hf : (cfg0.win 4).flush t = true) :
    (dat (Run.A1 m) c).flushed 4 t = (win0_4.blk t).view.read (Elt Ideal) (amaxOf m c) := by
  have h63 : t.val % 64 = 63 := (flush0_4 t).mp hf
  show (cfg0.win 4).cut (grid0.coords t) ((dat (Run.A1 m) c).after 4 t) = _
  rw [after0_4]
  funext y
  rw [View.read_apply]
  have e0 : ((win0_4.blk t).view.emb y 0 : Nat) = t.val / 64 * 1024 + (y 0).val := by
    show win0_4.index t 0 * 1024 + 1 * (y 0).val = _; rw [(idx_facts t).2.2.2.2.1]; omega
  have hy : (y : S1024x1.Idx) = ix2 (y 0) (y 1) := by funext a; fin_cases a <;> rfl
  have hb := amax_last m c t h63 (y 0) (y 1) ((win0_4.blk t).view.emb y 0) e0
  refine Eq.trans ?_ hb
  exact congrArg _ hy

/-- The first result after the run: `h`. -/
theorem final_h (c : Dev nD) : (dat (Run.A1 m) c).arrAt 3 cfg0.N = hOf m c := by
  refine (dat (Run.A1 m) c).arrAt_eq_of_cover 3 (hOf m c) (fun t _ => flushed_h m c t) fun i => ?_
  have hN : cfg0.N = 256 := N_0
  have h0 : (i 0 : Nat) < 4096 := (i 0).isLt
  have h1 : (i 1 : Nat) < 16384 := (i 1).isLt
  have ht : (i 0 : Nat) / 1024 * 64 + (i 1 : Nat) / 256 < cfg0.N := by omega
  refine ⟨⟨(i 0 : Nat) / 1024 * 64 + (i 1 : Nat) / 256, ht⟩, flush0_3 _, ?_⟩
  generalize hq : (⟨(i 0 : Nat) / 1024 * 64 + (i 1 : Nat) / 256, ht⟩ : Fin cfg0.N) = t
  have hv : t.val = (i 0 : Nat) / 1024 * 64 + (i 1 : Nat) / 256 := by rw [← hq]
  show i ∈ ((View.whole main_v2_0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [(idx_facts t).2.2.2.1.1]; omega
  | ⟨1, _⟩ => show win0_3.index t 1 * 256 ≤ (i 1 : Nat) ∧ (i 1 : Nat) < win0_3.index t 1 * 256 + 256
              rw [(idx_facts t).2.2.2.1.2]; omega

/-- The second result after the run: the row maxima. -/
theorem final_amax (c : Dev nD) : (dat (Run.A1 m) c).arrAt 4 cfg0.N = amaxOf m c := by
  refine (dat (Run.A1 m) c).arrAt_eq_of_cover 4 (amaxOf m c) (fun t hf => flushed_amax m c t hf) fun i => ?_
  have hN : cfg0.N = 256 := N_0
  have h0 : (i 0 : Nat) < 4096 := (i 0).isLt
  have h1 : (i 1 : Nat) < 1 := (i 1).isLt
  have ht : (i 0 : Nat) / 1024 * 64 + 63 < cfg0.N := by omega
  refine ⟨⟨(i 0 : Nat) / 1024 * 64 + 63, ht⟩, (flush0_4 _).mpr (by show ((i 0 : Nat) / 1024 * 64 + 63) % 64 = 63; omega), ?_⟩
  generalize hq : (⟨(i 0 : Nat) / 1024 * 64 + 63, ht⟩ : Fin cfg0.N) = t
  have hv : t.val = (i 0 : Nat) / 1024 * 64 + 63 := by rw [← hq]
  show i ∈ ((View.whole main_v2_1).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [(idx_facts t).2.2.2.2.1]; omega
  | ⟨1, _⟩ => show win0_4.index t 1 * 1 ≤ (i 1 : Nat) ∧ (i 1 : Nat) < win0_4.index t 1 * 1 + 1
              rw [(idx_facts t).2.2.2.2.2]; omega

end Cert.WholeIdeal.Blocks

end
-- ==== Proof.WholeIdealQuant.lean ====
/- The whole program's second call over the reals, and the three results: each point quantises its 128 rows from their maxima, so the
   codes and scales left in the arrays are those of the rows of `h` and of the row maxima the first call left. -/
module

public import proofs.«01_k».proof.Proof.WholeScalar
public import proofs.«01_k».proof.Proof.WholeIdealProj

@[expose] public section

set_option maxRecDepth 16384

noncomputable section

open Idealize.ShloMosaic Idealize.ShloMosaic.TcCoe Idealize.SL.Sem
open Idealize.ShloMosaic.Pipeline (Dat)

/-! ## The quantiser's results as arrays -/

namespace Cert.WholeSpec

open Cert.ProjSpec Cert.WholeScalar

/-- A row's scale: the power of two of its maximum's exponent. -/
def scaleAt (x : X) (w : W) (r : Fin 4096) : EReal := refPow (refExp (amaxAt x w r))
/-- A row's inverse scale. -/
def invAt (x : X) (w : W) (r : Fin 4096) : EReal := refPow (-(refExp (amaxAt x w r)))
/-- An element's code. -/
def codeAt (x : X) (w : W) (r : Fin 4096) (f : Fin 16384) : EReal := code (hAt x w r f) (invAt x w r)

end Cert.WholeSpec

namespace Cert.WholeIdeal.Quant

open Cert.WholeIdeal Cert.WholeIdeal.Gen Cert.WholeIdeal.R1 Cert.ProjSpec Cert.WholeSpec Cert.WholeScalar

theorem hz : (![0, 0] : Fin 2 → Nat) = fun _ => 0 := funext fun a => by fin_cases a <;> rfl

/-! ## The body's arithmetic on one row -/

/-- The row maxima as loaded. -/
theorem pay2_eq (a : Vec Ideal S128x1 .f32) : k1_pay2 a = a := by unfold k1_pay2; exact shapeCast_self _ _

/-- The scales' search argument at a row. -/
theorem pay3_apply (a : Vec Ideal S128x1 .f32) (y : S128x1.Idx) : k1_pay3 a y = a y * Ideal.ofBits .f32 0x3B124925#32 := by
  unfold k1_pay3
  rw [pay2_eq]
  rfl

/-- The search's first five steps. -/
def search5 (s : EReal) : BitVec 32 := step s (step s (step s (step s (step s 0#32 128#32) 64#32) 32#32) 16#32) 8#32

/-- One step of the search on a block of rows. -/
def vstep (s : FVec Ideal S128x1 .f32) (b : IVec S128x1 32) (bit : BitVec 32) : IVec S128x1 32 :=
  select (cmpf .oge s (bitcastToFloat .f32 (shli (addi b (broadcast S128x1 bit)) (broadcast S128x1 23#32)))) (addi b (broadcast S128x1 bit)) b

/-- A step at a row. -/
theorem vstep_apply (s : FVec Ideal S128x1 .f32) (b : IVec S128x1 32) (bit : BitVec 32) (y : S128x1.Idx) :
    vstep s b bit y = step (s y) (b y) bit := rfl

/-- The first five steps on a block of rows. -/
theorem pay4_eq (a : Vec Ideal S128x1 .f32) : k1_pay4 a
    = vstep (k1_pay3 a) (vstep (k1_pay3 a) (vstep (k1_pay3 a) (vstep (k1_pay3 a) (vstep (k1_pay3 a) (broadcast S128x1 0#32) 128#32) 64#32) 32#32) 16#32) 8#32 := by
  unfold k1_pay4 vstep
  generalize k1_pay3 a = s
  rfl

/-- The first five steps at a row. -/
theorem pay4_apply (a : Vec Ideal S128x1 .f32) (y : S128x1.Idx) : k1_pay4 a y = search5 (k1_pay3 a y) := by
  rw [pay4_eq, vstep_apply, vstep_apply, vstep_apply, vstep_apply, vstep_apply]
  rfl

/-- The last three steps and the guards at a row. -/
theorem pay7_apply (v1 v3 : FVec Ideal S128x1 .f32) (v39 v41 v42 : IVec S128x1 32) (y : S128x1.Idx)
    (h41 : v41 y = IntOp.addi (v39 y) 4#32) (h42 : v42 y = 23#32) :
    k1_pay7 v1 v3 v39 v41 v42 y
      = if Ideal.cmp .oeq (v1 y) (Ideal.ofBits .f32 0x00000000#32) = 1#1 then 0#32
        else if IntOp.ori (IntOp.cmpi .eq (step (v3 y) (step (v3 y) (step (v3 y) (v39 y) 4#32) 2#32) 1#32) 0#32)
          (IntOp.cmpi .eq (step (v3 y) (step (v3 y) (step (v3 y) (v39 y) 4#32) 2#32) 1#32) 255#32) = 1#1 then 0#32
        else IntOp.subi (step (v3 y) (step (v3 y) (step (v3 y) (v39 y) 4#32) 2#32) 1#32) 126#32 := by
  have e : step (v3 y) (v39 y) 4#32
      = if Ideal.cmp .oge (v3 y) (Ideal.ofBits .f32 (IntOp.shli .vector (v41 y) (v42 y))) = 1#1 then v41 y else v39 y := by
    rw [h41, h42]; rfl
  rw [e]
  rfl

/-- The exponent at a row. -/
theorem expo_apply (a : Vec Ideal S128x1 .f32) (y : S128x1.Idx) : expo a y = kerExp (a y) := by
  unfold expo
  rw [View.ld_unit_zero hz, pay2_eq, pay7_apply _ _ _ _ _ y rfl rfl, pay4_apply, pay3_apply]
  rfl

/-- The scale at a row. -/
theorem scale_apply (a : Vec Ideal S128x1 .f32) (y : S128x1.Idx) : out0_3 a y = kerPow (kerExp (a y)) := by
  rw [← expo_apply]
  unfold out0_3 expo
  rw [View.canon_unit_zero hz]
  rfl

/-- The code at a row and a column. -/
theorem code_apply (x : Vec Ideal S128x16384 .f32) (a : Vec Ideal S128x1 .f32) (p : Fin 128) (q : Fin 16384) :
    out0_2 x a (ix2 p q) = code (x (ix2 p q)) (kerPow (IntOp.subi 0#32 (kerExp (a (ix2 p 0))))) := by
  rw [← expo_apply]
  unfold out0_2
  rw [View.canon_unit_zero hz, View.ld_unit_zero hz]
  generalize expo a = e
  unfold k1_pay1
  rw [shapeCast_self]
  unfold code
  show min _ (max _ (x (ix2 p q) * broadcastTo S128x16384 _ _ (ix2 p q))) = _
  pointwise
  rfl

/-! ## The call's arrays -/

variable (m : (ℓ : Loc nD τ sig) → Buf (Elt Ideal) ℓ)

attribute [local irreducible] Cert.ProjSpec.amaxAt Cert.ProjSpec.hAt

open Cert.WholeIdeal.Blocks (xOf wOf hOf amaxOf)

/-- The codes as contents of the second call's first output. -/
abbrev codesOf (c : Dev nD) : Buf (Elt Ideal) ((c : Thread nD τ).loc main_v3_0) :=
  fun i : S4096x16384.Idx => codeAt (xOf m c) (wOf m c) (i 0) (i 1)
/-- The scales as contents of its second output. -/
abbrev scaleOf (c : Dev nD) : Buf (Elt Ideal) ((c : Thread nD τ).loc main_v3_1) :=
  fun i : S4096x1.Idx => scaleAt (xOf m c) (wOf m c) (i 0)

/-- The call starts from `h` in its first input. -/
theorem A2_h (c : Dev nD) : Run.A2 m c main_v2_0 = hOf m c := (Run.W2_20 m c).trans (Blocks.final_h m c)
/-- The call starts from the row maxima in its second input. -/
theorem A2_amax (c : Dev nD) : Run.A2 m c main_v2_1 = amaxOf m c := (Run.W2_21 m c).trans (Blocks.final_amax m c)

/-- Every window moves down one block of rows per point and takes all columns. -/
theorem idx_facts : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0) ∧ (win1_3.index t 0 = t.val ∧ win1_3.index t 1 = 0) :=
  (by decide +kernel : ∀ t : Fin grid1.N,
    (win1_0.index t 0 = t.val ∧ win1_0.index t 1 = 0) ∧ (win1_1.index t 0 = t.val ∧ win1_1.index t 1 = 0)
      ∧ (win1_2.index t 0 = t.val ∧ win1_2.index t 1 = 0) ∧ (win1_3.index t 0 = t.val ∧ win1_3.index t 1 = 0))

/-- The block of `h` at point `t`: rows `128 t` on. -/
theorem iblk_0_apply (c : Dev nD) (t : Fin cfg1.N) (p : Fin 128) (q : Fin 16384) (r : Fin 4096) (f : Fin 16384)
    (hr : r.val = t.val * 128 + p.val) (hf : f.val = q.val) :
    (iblk (Run.A2 m) c 0 t : Vec Ideal S128x16384 .f32) (ix2 p q) = hAt (xOf m c) (wOf m c) r f := by
  unfold iblk
  rw [View.read_apply]
  show Run.A2 m c main_v2_0 _ = _
  rw [A2_h]
  show hOf m c _ = hOf m c (ix2 r f)
  congr 1
  funext a
  apply Fin.ext
  match a with
  | ⟨0, _⟩ => show win1_0.index t 0 * 128 + 1 * p.val = r.val; rw [(idx_facts t).1.1]; omega
  | ⟨1, _⟩ => show win1_0.index t 1 * 16384 + 1 * q.val = f.val; rw [(idx_facts t).1.2]; omega

/-- The block of the row maxima at point `t`. -/
theorem iblk_1_apply (c : Dev nD) (t : Fin cfg1.N) (p : Fin 128) (u : Fin 1) (r : Fin 4096) (hr : r.val = t.val * 128 + p.val) :
    (iblk (Run.A2 m) c 1 t : Vec Ideal S128x1 .f32) (ix2 p u) = amaxAt (xOf m c) (wOf m c) r := by
  unfold iblk
  rw [View.read_apply]
  show Run.A2 m c main_v2_1 _ = _
  rw [A2_amax]
  show amaxOf m c _ = amaxOf m c (ix2 r u)
  congr 1
  funext a
  apply Fin.ext
  match a with
  | ⟨0, _⟩ => show win1_1.index t 0 * 128 + 1 * p.val = r.val; rw [(idx_facts t).2.1.1]; omega
  | ⟨1, _⟩ => show win1_1.index t 1 * 1 + 1 * u.val = u.val; rw [(idx_facts t).2.1.2]; omega

/-- The codes point `t` leaves, at a row and a column. -/
theorem block_code (c : Dev nD) (t : Fin cfg1.N) (p : Fin 128) (q : Fin 16384) (r : Fin 4096) (f : Fin 16384)
    (hr : r.val = t.val * 128 + p.val) (hf : f.val = q.val) :
    out0_2 (iblk (Run.A2 m) c 0 t) (iblk (Run.A2 m) c 1 t) (ix2 p q) = codeAt (xOf m c) (wOf m c) r f := by
  refine (code_apply _ _ p q).trans ?_
  rw [iblk_0_apply m c t p q r f hr hf, iblk_1_apply m c t p 0 r hr, inverse_eq]
  rfl

/-- The scales point `t` leaves, at a row. -/
theorem block_scale (c : Dev nD) (t : Fin cfg1.N) (p : Fin 128) (u : Fin 1) (r : Fin 4096) (hr : r.val = t.val * 128 + p.val) :
    out0_3 (iblk (Run.A2 m) c 1 t) (ix2 p u) = scaleAt (xOf m c) (wOf m c) r := by
  refine (scale_apply _ (ix2 p u)).trans ?_
  rw [iblk_1_apply m c t p u r hr, scale_eq]
  rfl

/-- The codes point `t` writes back are the array's at its rows. -/
theorem flushed_codes (c : Dev nD) (t : Fin cfg1.N) :
    (dat (Run.A2 m) c).flushed 2 t = (win1_2.blk t).view.read (Elt Ideal) (codesOf m c) := by
  show (cfg1.win 2).cut (grid1.coords t) ((dat (Run.A2 m) c).after 2 t) = _
  rw [after0_2]
  funext y
  rw [View.read_apply]
  have e0 : ((win1_2.blk t).view.emb y 0 : Nat) = t.val * 128 + (y 0).val := by
    show win1_2.index t 0 * 128 + 1 * (y 0).val = _; rw [(idx_facts t).2.2.1.1]; omega
  have e1 : ((win1_2.blk t).view.emb y 1 : Nat) = (y 1).val := by
    show win1_2.index t 1 * 16384 + 1 * (y 1).val = _; rw [(idx_facts t).2.2.1.2]; omega
  have hy : (y : S128x16384.Idx) = ix2 (y 0) (y 1) := by funext a; fin_cases a <;> rfl
  have hb := block_code m c t (y 0) (y 1) ((win1_2.blk t).view.emb y 0) ((win1_2.blk t).view.emb y 1) e0 e1
  refine Eq.trans ?_ hb
  exact congrArg _ hy

/-- The scales point `t` writes back are the array's at its rows. -/
theorem flushed_scale (c : Dev nD) (t : Fin cfg1.N) :
    (dat (Run.A2 m) c).flushed 3 t = (win1_3.blk t).view.read (Elt Ideal) (scaleOf m c) := by
  show (cfg1.win 3).cut (grid1.coords t) ((dat (Run.A2 m) c).after 3 t) = _
  rw [after0_3]
  funext y
  rw [View.read_apply]
  have e0 : ((win1_3.blk t).view.emb y 0 : Nat) = t.val * 128 + (y 0).val := by
    show win1_3.index t 0 * 128 + 1 * (y 0).val = _; rw [(idx_facts t).2.2.2.1]; omega
  have hy : (y : S128x1.Idx) = ix2 (y 0) (y 1) := by funext a; fin_cases a <;> rfl
  have hb := block_scale m c t (y 0) (y 1) ((win1_3.blk t).view.emb y 0) e0
  refine Eq.trans ?_ hb
  exact congrArg _ hy

/-- The codes after the call. -/
theorem final_codes (c : Dev nD) : (dat (Run.A2 m) c).arrAt 2 cfg1.N = codesOf m c := by
  refine (dat (Run.A2 m) c).arrAt_eq_of_cover 2 (codesOf m c) (fun t _ => flushed_codes m c t) fun i => ?_
  have hN : cfg1.N = 32 := N_1
  have h0 : (i 0 : Nat) < 4096 := (i 0).isLt
  have h1 : (i 1 : Nat) < 16384 := (i 1).isLt
  have ht : (i 0 : Nat) / 128 < cfg1.N := by omega
  refine ⟨⟨(i 0 : Nat) / 128, ht⟩, flush1_2 _, ?_⟩
  generalize hq : (⟨(i 0 : Nat) / 128, ht⟩ : Fin cfg1.N) = t
  have hv : t.val = (i 0 : Nat) / 128 := by rw [← hq]
  show i ∈ ((View.whole main_v3_0).slice (win1_2.rect t)).set
  rw [View.set_slice_whole, Rect.mem_set_unit]
  intro a
  match a with
  | ⟨0, _⟩ => show win1_2.index t 0 * 128 ≤ (i 0 : Nat) ∧ (i 0 : Nat) < win1_2.index t 0 * 128 + 128
              rw [(idx_facts t).2.2.1.1]; omega
  | ⟨1, _⟩ => show win1_2.index t 1 * 16384 ≤ (i 1 : Nat) ∧ (i 1 : Nat) < win1_2.index t 1 * 16384 + 16384
              rw [(idx_facts t).2.2.1.2]; omega

/-- The scales after the call. -/
theorem final_scale (c : Dev nD) : (dat (Run.A2 m) c).arrAt 3 cfg1.N = scaleOf m c := by
  refine (dat (Run.A2 m) c).arrAt_eq_of_cover 3 (scaleOf m c) (fun t _ => flushed_scale m c t) fun i => ?_
  have hN : cfg1.N = 32 := N_1
  have h0 : (i 0 : Nat) < 4096 := (i 0).isLt
  have h1 : (i 1 : Nat) < 1 := (i 1).isLt
  have ht : (i 0 : Nat) / 128 < cfg1.N := by omega
  refine ⟨⟨(i 0 : Nat) / 128, ht⟩, flush1_3 _, ?_⟩
  generalize hq : (⟨(i 0 : Nat) / 128, ht⟩ : Fin cfg1.N) = t
  have hv : t.val = (i 0 : Nat) / 128 := by rw [← hq]
  show i ∈ ((View.whole main_v3_1).slice (win1_3.rect t)).set
  rw [View.set_slice_whole, Rect.mem_set_unit]
  intro a
  match a with
  | ⟨0, _⟩ => show win1_3.index t 0 * 128 ≤ (i 0 : Nat) ∧ (i 0 : Nat) < win1_3.index t 0 * 128 + 128
              rw [(idx_facts t).2.2.2.1]; omega
  | ⟨1, _⟩ => show win1_3.index t 1 * 1 ≤ (i 1 : Nat) ∧ (i 1 : Nat) < win1_3.index t 1 * 1 + 1
              rw [(idx_facts t).2.2.2.2]; omega

/-! ## The results, with their batch axis -/

/-- The row maxima as contents of the program's first result. -/
abbrev amax3Of (c : Dev nD) : Buf (Elt Ideal) ((c : Thread nD τ).loc main_v4) :=
  fun i : S1x4096x1.Idx => amaxAt (xOf m c) (wOf m c) (i 1)
/-- The codes as contents of its second. -/
abbrev codes3Of (c : Dev nD) : Buf (Elt Ideal) ((c : Thread nD τ).loc main_v5) :=
  fun i : S1x4096x16384.Idx => codeAt (xOf m c) (wOf m c) (i 1) (i 2)
/-- The scales as contents of its third. -/
abbrev scale3Of (c : Dev nD) : Buf (Elt Ideal) ((c : Thread nD τ).loc main_v6) :=
  fun i : S1x4096x1.Idx => scaleAt (xOf m c) (wOf m c) (i 1)

/-- The row maxima survive the second call. -/
theorem W3_amax (c : Dev nD) : Run.W3 m c main_v2_1 = amaxOf m c :=
  (Run.W3_of m c main_v2_1 (by decide) (by decide)).trans (A2_amax m c)

/-- The first result is the row maxima, reshaped. -/
theorem W4_amax (c : Dev nD) : Run.W4 m c main_v4 = amax3Of m c := by
  have h : (Run.W4 m c main_v4 : FVec Ideal S1x4096x1 .f32)
      = shapeCast S1x4096x1 (Run.W3 m c main_v2_1 : FVec Ideal S4096x1 .f32) shapeCasts_S4096x1_S1x4096x1 := by
    delta Run.W4
    entry_read
    rfl
  refine h.trans ?_
  rw [W3_amax]
  funext i
  obtain ⟨z, r, u, rfl⟩ : ∃ z r u, i = ix3 z r u := ⟨i 0, i 1, i 2, by funext a; fin_cases a <;> rfl⟩
  exact ValueIdx.shapeCast_ab_1ab_apply _ _ z r u

/-- The second result is the codes, reshaped. -/
theorem W4_codes (c : Dev nD) : Run.W4 m c main_v5 = codes3Of m c := by
  have h : (Run.W4 m c main_v5 : FVec Ideal S1x4096x16384 .fp8e4m3)
      = shapeCast S1x4096x16384 (Run.W3 m c main_v3_0 : FVec Ideal S4096x16384 .fp8e4m3) shapeCasts_S4096x16384_S1x4096x16384 := by
    delta Run.W4
    entry_read
    rfl
  refine h.trans ?_
  rw [Run.W3_30, final_codes]
  funext i
  obtain ⟨z, r, u, rfl⟩ : ∃ z r u, i = ix3 z r u := ⟨i 0, i 1, i 2, by funext a; fin_cases a <;> rfl⟩
  exact ValueIdx.shapeCast_ab_1ab_apply _ _ z r u

/-- The third result is the scales, reshaped. -/
theorem W4_scale (c : Dev nD) : Run.W4 m c main_v6 = scale3Of m c := by
  have h : (Run.W4 m c main_v6 : FVec Ideal S1x4096x1 .f32)
      = shapeCast S1x4096x1 (Run.W3 m c main_v3_1 : FVec Ideal S4096x1 .f32) shapeCasts_S4096x1_S1x4096x1 := by
    delta Run.W4
    entry_read
    rfl
  refine h.trans ?_
  rw [Run.W3_31, final_scale]
  funext i
  obtain ⟨z, r, u, rfl⟩ : ∃ z r u, i = ix3 z r u := ⟨i 0, i 1, i 2, by funext a; fin_cases a <;> rfl⟩
  exact ValueIdx.shapeCast_ab_1ab_apply _ _ z r u

/-- The whole program's run, read. -/
theorem run_arrays (ρ : Dev nD → PrngReg) : θ_run defs (onTc (τ := τ) (main (F := Ideal))) ⟨m, fun _ => 0, ρ⟩ fun r => ∀ c : Dev nD,
      r.2.mem ((c : Thread nD τ).loc main_v4) = amax3Of m c
      ∧ r.2.mem ((c : Thread nD τ).loc main_v5) = codes3Of m c
      ∧ r.2.mem ((c : Thread nD τ).loc main_v6) = scale3Of m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1.trans (W4_amax m c), (h.1 c).2.1.trans (W4_codes m c),
      (h.1 c).2.2.1.trans (W4_scale m c), (h.1 c).2.2.2⟩) (Run.run m ρ)

end Cert.WholeIdeal.Quant

end
-- ==== Proof.RefWholeValue.lean ====
/- What the reference of the whole program computes, entry by entry over the reals: the row maxima, the power-of-two scales of their
   exponents, and the codes of `h` under the inverse scales;
   and the claim that the whole program computes the same arrays. -/
module

public import proofs.«01_k».proof.Defs
public import proofs.«01_k».proof.Proof.Gen.RefWholeIdeal.Frame
public import proofs.«01_k».proof.Proof.WholeIdealQuant

@[expose] public section

set_option maxRecDepth 100000

noncomputable section

open Idealize.ShloMosaic Idealize.ShloMosaic.TcCoe Idealize.SL.Sem
open Idealize.ShloMosaic.Pipeline (Dat)

namespace Cert.RefWholeIdeal.Value

open Cert.RefWholeIdeal Cert.RefWholeIdeal.Gen Cert.ProjSpec Cert.WholeSpec Cert.WholeScalar

variable (m : (ℓ : Loc nD τ sig) → Buf (Elt Ideal) ℓ) (ρ : Dev nD → PrngReg)

/-- The product the reference takes. -/
abbrev prod (x : X) (w : W) : FVec Ideal S1x4096x32768 .f32 :=
  Host.dotGeneral dot_S1x4096x8192_S8192x32768_S1x4096x32768_2_0_01_1_n_n none
    (truncf .bf16 x bitsLt_bf16_f32) (truncf .bf16 w bitsLt_bf16_f32)

/-- The product read at a row and a weight column. -/
theorem prod_apply (x : X) (w : W) (r : Fin 4096) (f : Fin 32768) : prod x w (ix3 0 r f) = dotAt x w r f := by
  let D := dot_S1x4096x8192_S8192x32768_S1x4096x32768_2_0_01_1_n_n
  show FloatOps.dotGeneral D none _ _ _ (ix3 0 r f) = ∑ k : Fin 8192, x (ix3 0 r k) * w (ix2 k f)
  rw [Ideal.dotGeneral_apply, ← Equiv.sum_comp (ValueIdx.contrEquiv1 D 8192 rfl rfl).symm]
  refine Finset.sum_congr rfl fun k _ => ?_
  have hk := ValueIdx.contrEquiv1_symm_val D 8192 rfl rfl k
  have el : D.lhsIdx (ix3 0 r f) ((ValueIdx.contrEquiv1 D 8192 rfl rfl).symm k) = ix3 0 r k := by
    funext a; apply Fin.ext
    match a with
    | ⟨0, _⟩ => rfl
    | ⟨1, _⟩ => rfl
    | ⟨2, _⟩ => exact hk
  have er : D.rhsIdx (ix3 0 r f) ((ValueIdx.contrEquiv1 D 8192 rfl rfl).symm k) = ix2 k f := by
    funext a; apply Fin.ext
    match a with
    | ⟨0, _⟩ => exact hk
    | ⟨1, _⟩ => rfl
  rw [el, er]
  rfl

/-- The reference's `h`. -/
abbrev hRef (x : X) (w : W) : FVec Ideal S1x4096x16384 .f32 :=
  mulf (mulf (extractStridedSlice S1x4096x16384 ![0, 0, 0] (prod x w) slices_S1x4096x32768_S1x4096x16384_0_0_0)
    (Host.divf (broadcastInDim S1x4096x16384 ![] bcast_S_S1x4096x16384 (constant S_ .f32 0x3F800000#32))
      (addf (broadcastInDim S1x4096x16384 ![] bcast_S_S1x4096x16384 (constant S_ .f32 0x3F800000#32))
        (Host.exp (Host.negf (extractStridedSlice S1x4096x16384 ![0, 0, 0] (prod x w) slices_S1x4096x32768_S1x4096x16384_0_0_0))))))
    (extractStridedSlice S1x4096x16384 ![0, 0, 16384] (prod x w) slices_S1x4096x32768_S1x4096x16384_0_0_16384)

/-- The reference's `h` at a row and a column. -/
theorem hRef_apply (x : X) (w : W) (r : Fin 4096) (f : Fin 16384) : hRef x w (ix3 0 r f) = hAt x w r f := by
  unfold hRef hAt swiglu
  rw [← prod_apply, ← prod_apply]
  generalize prod x w = p
  pointwise

/-- The reference's row maxima. -/
abbrev amaxRef (x : X) (w : W) : FVec Ideal S1x4096x1 .f32 :=
  broadcastInDim S1x4096x1 ![0, 1] bcast_S1x4096_S1x4096x1_0_1
    (Host.reduce FloatOps.maximumf (Host.absf (hRef x w)) (constant S_ .f32 0xFF800000#32) reducesTo_S1x4096x16384_S1x4096_d2 h_S_)

/-- The reference's row maximum at a row: the greatest absolute value of `h`'s row. -/
theorem amaxRef_apply (x : X) (w : W) (r : Fin 4096) : amaxRef x w (ix3 0 r 0) = amaxAt x w r := by
  have hred : S1x4096x16384.Reduces [2] S1x4096 := by decide
  have e : amaxRef x w (ix3 0 r 0) = Host.reduce FloatOps.maximumf (Host.absf (hRef x w)) (constant S_ .f32 0xFF800000#32)
      reducesTo_S1x4096x16384_S1x4096_d2 h_S_ (ix2 0 r) := by
    unfold amaxRef
    generalize Host.reduce FloatOps.maximumf (Host.absf (hRef x w)) (constant S_ .f32 0xFF800000#32)
      reducesTo_S1x4096x16384_S1x4096_d2 h_S_ = p
    pointwise
  rw [e, Host.reduce_eq_fold_single (a := 2) _ _ _ _ hred]
  have hb : (constant S_ .f32 0xFF800000#32 : FVec Ideal S_ .f32) (Shape.Idx.first h_S_) = (⊥ : EReal) := by
    show Ideal.ofBits .f32 0xFF800000#32 = ⊥
    simp [Ideal.ofBits, Ideal.ieee]
  rw [hb]
  unfold amaxAt Finset.sup
  refine Finset.fold_congr fun (f : Fin 16384) _ => ?_
  have hl : hred.lift (ix2 0 r) f = ix3 0 r f := by
    funext a; apply Fin.ext
    match a with
    | ⟨0, _⟩ => rfl
    | ⟨1, _⟩ => rfl
    | ⟨2, _⟩ => rfl
  show max (hRef x w (hred.lift (ix2 0 r) f)) (-(hRef x w (hred.lift (ix2 0 r) f))) = _
  rw [hl, hRef_apply]

/-- The row maxima over 448, as the reference multiplies them. -/
abbrev sRef (a : FVec Ideal S1x4096x1 .f32) : FVec Ideal S1x4096x1 .f32 :=
  mulf a (broadcastInDim S1x4096x1 ![] bcast_S_S1x4096x1 (constant S_ .f32 0x3B124925#32))

/-- The powers of two the reference counts over. -/
abbrev powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- How many of them do not exceed each row's scale. -/
abbrev countRef (s : FVec Ideal S1x4096x1 .f32) : IVec S1x4096x1 32 :=
  broadcastInDim S1x4096x1 ![0, 1] bcast_S1x4096_S1x4096x1_0_1
    (Host.reduce IntOp.addi
      (extui 32 (cmpf .oge (broadcastInDim S1x4096x254 ![0, 1, 2] bcast_S1x4096x1_S1x4096x254_0_1_2 s)
        (broadcastInDim S1x4096x254 ![0, 1, 2] bcast_S1x1x254_S1x4096x254_0_1_2
          (broadcastInDim S1x1x254 ![2] bcast_S254_S1x1x254_2 powers))) natLt_1_32)
      (constantI S_ 32 0#32) reducesTo_S1x4096x254_S1x4096_d2 h_S_)

/-- The exponents, from the count. -/
abbrev guardRef (a s : FVec Ideal S1x4096x1 .f32) (n : IVec S1x4096x1 32) : IVec S1x4096x1 32 :=
  select (cmpf .oeq a (broadcastInDim S1x4096x1 ![] bcast_S_S1x4096x1 (constant S_ .f32 0x00000000#32)))
    (broadcastInDim S1x4096x1 ![] bcast_S_S1x4096x1 (constantI S_ 32 0#32))
    (select (ori (cmpi .eq n (broadcastInDim S1x4096x1 ![] bcast_S_S1x4096x1 (constantI S_ 32 0#32)))
        (cmpf .oeq s (broadcastInDim S1x4096x1 ![] bcast_S_S1x4096x1 (constant S_ .f32 0x7F800000#32))))
      (broadcastInDim S1x4096x1 ![] bcast_S_S1x4096x1 (constantI S_ 32 0#32))
      (subi n (broadcastInDim S1x4096x1 ![] bcast_S_S1x4096x1 (constantI S_ 32 126#32))))

/-- The exponents of the row maxima. -/
abbrev expRef (a : FVec Ideal S1x4096x1 .f32) : IVec S1x4096x1 32 := guardRef a (sRef a) (countRef (sRef a))

/-- Two to the power of each exponent. -/
abbrev powRef (e : IVec S1x4096x1 32) : FVec Ideal S1x4096x1 .f32 :=
  select (cmpi .sgt e (broadcastInDim S1x4096x1 ![] bcast_S_S1x4096x1 (constantI S_ 32 127#32)))
    (broadcastInDim S1x4096x1 ![] bcast_S_S1x4096x1 (id (constant S_ .f32 0x7F800000#32)))
    (select (cmpi .slt e (broadcastInDim S1x4096x1 ![] bcast_S_S1x4096x1 (constantI S_ 32 4294967170#32)))
      (broadcastInDim S1x4096x1 ![] bcast_S_S1x4096x1 (id (constant S_ .f32 0x00000000#32)))
      (Host.powf (broadcastInDim S1x4096x1 ![] bcast_S_S1x4096x1 (constant S_ .f32 0x40000000#32)) (sitofp .f32 e)))

/-- A power at a row. -/
theorem powRef_apply (e : IVec S1x4096x1 32) (r : Fin 4096) : powRef e (ix3 0 r 0) = refPow (e (ix3 0 r 0)) := by
  unfold powRef
  pointwise
  unfold refPow
  rfl

/-- The count at a row. -/
theorem countRef_apply (s : FVec Ideal S1x4096x1 .f32) (r : Fin 4096) : countRef s (ix3 0 r 0) = WholeScalar.count (s (ix3 0 r 0)) := by
  have hred : S1x4096x254.Reduces [2] S1x4096 := by decide
  unfold countRef
  generalize hx : (extui 32 (cmpf .oge (broadcastInDim S1x4096x254 ![0, 1, 2] bcast_S1x4096x1_S1x4096x254_0_1_2 s)
        (broadcastInDim S1x4096x254 ![0, 1, 2] bcast_S1x1x254_S1x4096x254_0_1_2
          (broadcastInDim S1x1x254 ![2] bcast_S254_S1x1x254_2 powers))) natLt_1_32 : IVec S1x4096x254 32) = x
  have e : broadcastInDim S1x4096x1 ![0, 1] bcast_S1x4096_S1x4096x1_0_1
      (Host.reduce IntOp.addi x (constantI S_ 32 0#32) reducesTo_S1x4096x254_S1x4096_d2 h_S_) (ix3 0 r 0)
        = Host.reduce IntOp.addi x (constantI S_ 32 0#32) reducesTo_S1x4096x254_S1x4096_d2 h_S_ (ix2 0 r) := by
    generalize Host.reduce IntOp.addi x (constantI S_ 32 0#32) reducesTo_S1x4096x254_S1x4096_d2 h_S_ = p
    pointwise
  rw [e, Host.reduce_eq_fold_single (a := 2) _ _ _ _ hred]
  unfold WholeScalar.count
  refine Finset.fold_congr fun (j : Fin 254) _ => ?_
  have hl : hred.lift (ix2 0 r) j = ix3 0 r j := by
    funext a; apply Fin.ext
    match a with
    | ⟨0, _⟩ => rfl
    | ⟨1, _⟩ => rfl
    | ⟨2, _⟩ => rfl
  show x (hred.lift (ix2 0 r) j) = _
  rw [hl, ← hx]
  pointwise
  rfl

/-- The exponent at a row. -/
theorem expRef_apply (a : FVec Ideal S1x4096x1 .f32) (r : Fin 4096) : expRef a (ix3 0 r 0) = refExp (a (ix3 0 r 0)) := by
  have hc := countRef_apply (sRef a) r
  have hs : sRef a (ix3 0 r 0) = a (ix3 0 r 0) * Ideal.ofBits .f32 0x3B124925#32 := by
    unfold sRef
    pointwise
  unfold expRef
  generalize countRef (sRef a) = n at hc ⊢
  generalize sRef a = s at hc hs ⊢
  unfold guardRef
  pointwise
  unfold refExp
  rw [← hs, ← hc, ofBits_zero]
  rfl

/-! ## The host's arrays -/

/-- The activations a device starts from. -/
abbrev xOf (c : Dev nD) : X := m ((c : Thread nD τ).loc main_arg0)
/-- The weights a device starts from. -/
abbrev wOf (c : Dev nD) : W := m ((c : Thread nD τ).loc main_arg1)

/-- `h`. -/
theorem V_h (c : Dev nD) : (V m c main_v6 : FVec Ideal S1x4096x16384 .f32) = hRef (xOf m c) (wOf m c) := by
  delta V
  entry_read
  rfl

/-- The row maxima. -/
theorem V_amax (c : Dev nD) : (V m c main_v9 : FVec Ideal S1x4096x1 .f32) = amaxRef (xOf m c) (wOf m c) := by
  delta V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  entry_read
  rfl

/-! The exponents and the powers: the host's line is read in pieces, each from any contents of the buffers before it. -/

/-- Two lines one after the other. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The line up to the two products' halves and SwiGLU's gate. -/
abbrev S1 (c : Dev nD) : Valuation τ sig (Elt Ideal) :=
  StableHlo.after (hostOps0_1 (F := Ideal)) (StableHlo.after (hostOps0 (F := Ideal)) (fun b => m (c, b)))
/-- The line up to the exponents' count and guard. -/
abbrev S2 (c : Dev nD) : Valuation τ sig (Elt Ideal) := StableHlo.after (hostOps0_2 (F := Ideal)) (S1 m c)
/-- The line up to the exponents. -/
abbrev S5 (c : Dev nD) : Valuation τ sig (Elt Ideal) :=
  StableHlo.after (hostOps0_5 (F := Ideal)) (StableHlo.after (hostOps0_4 (F := Ideal)) (StableHlo.after (hostOps0_3 (F := Ideal)) (S2 m c)))

/-- The row maxima of an `h`. -/
abbrev amaxOfH (h : FVec Ideal S1x4096x16384 .f32) : FVec Ideal S1x4096x1 .f32 :=
  broadcastInDim S1x4096x1 ![0, 1] bcast_S1x4096_S1x4096x1_0_1
    (Host.reduce FloatOps.maximumf (Host.absf h) (constant S_ .f32 0xFF800000#32) reducesTo_S1x4096x16384_S1x4096_d2 h_S_)

/-- The host's line after the exponents: the two powers of each. -/
abbrev lastOps : List (HloOp τ sig (Elt Ideal)) :=
  List.flatten [hostOps0_6, hostOps0_7, hostOps0_8, hostOps0_9, hostOps0_10, hostOps0_11, hostOps0_12, hostOps0_13]

section
variable (σ : Valuation τ sig (Elt Ideal))

/-- The row maxima, from the gate's and the other half of the products. -/
theorem two_amax : (StableHlo.after (hostOps0_2 (F := Ideal)) σ (Proc.devRef .tc main_v9) : FVec Ideal S1x4096x1 .f32)
    = amaxOfH (mulf (σ (Proc.devRef .tc main_v5) : FVec Ideal S1x4096x16384 .f32) (σ (Proc.devRef .tc main_v4))) := by
  entry_read
  rfl

/-- Whether the count is zero or the scale infinite. -/
theorem two_guard : (StableHlo.after (hostOps0_2 (F := Ideal)) σ (Proc.devRef .tc main_v29) : IVec S1x4096x1 1)
    = (fun a => ori (cmpi .eq (countRef (sRef a)) (broadcastInDim S1x4096x1 ![] bcast_S_S1x4096x1 (constantI S_ 32 0#32)))
        (cmpf .oeq (sRef a) (broadcastInDim S1x4096x1 ![] bcast_S_S1x4096x1 (constant S_ .f32 0x7F800000#32))))
     (amaxOfH (mulf (σ (Proc.devRef .tc main_v5) : FVec Ideal S1x4096x16384 .f32) (σ (Proc.devRef .tc main_v4)))) := by
  entry_read
  rfl

/-- The exponent then. -/
theorem two_zero : (StableHlo.after (hostOps0_2 (F := Ideal)) σ (Proc.devRef .tc main_v30) : IVec S1x4096x1 32)
    = broadcastInDim S1x4096x1 ![] bcast_S_S1x4096x1 (constantI S_ 32 0#32) := by
  entry_read
  rfl

/-- The exponent otherwise: the count less 126. -/
theorem two_sub : (StableHlo.after (hostOps0_2 (F := Ideal)) σ (Proc.devRef .tc main_v32) : IVec S1x4096x1 32)
    = subi (countRef (sRef (amaxOfH (mulf (σ (Proc.devRef .tc main_v5) : FVec Ideal S1x4096x16384 .f32) (σ (Proc.devRef .tc main_v4))))))
        (broadcastInDim S1x4096x1 ![] bcast_S_S1x4096x1 (constantI S_ 32 126#32)) := by
  entry_read
  rfl

/-- The exponents, from the row maxima and the guard. -/
theorem three_exp : (StableHlo.after (hostOps0_5 (F := Ideal)) (StableHlo.after (hostOps0_4 (F := Ideal)) (StableHlo.after (hostOps0_3 (F := Ideal)) σ)) (Proc.devRef .tc main_v37) : IVec S1x4096x1 32)
    = select (cmpf (F := Ideal) .oeq (σ (Proc.devRef .tc main_v9) : FVec Ideal S1x4096x1 .f32) (broadcastInDim S1x4096x1 ![] bcast_S_S1x4096x1 (constant S_ .f32 0x00000000#32)))
    (broadcastInDim S1x4096x1 ![] bcast_S_S1x4096x1 (constantI S_ 32 0#32))
    (select (σ (Proc.devRef .tc main_v29) : IVec S1x4096x1 1) (σ (Proc.devRef .tc main_v30) : IVec S1x4096x1 32) (σ (Proc.devRef .tc main_v32))) := by
  rw [← after_append, ← after_append]
  simp only [hostOps0_3, hostOps0_4, hostOps0_5, List.cons_append, List.nil_append]
  entry_read
  rfl

/-- The scales, from the exponents. -/
theorem four_scale : (StableHlo.after lastOps σ
      (Proc.devRef .tc main_v46) : FVec Ideal S1x4096x1 .f32) = powRef (σ (Proc.devRef .tc main_v37) : IVec S1x4096x1 32) := by
  simp only [lastOps, hostOps0_6, hostOps0_7, hostOps0_8, hostOps0_9, hostOps0_10, hostOps0_11, hostOps0_12, hostOps0_13, List.flatten_cons, List.flatten_nil, List.append_nil, List.cons_append, List.nil_append]
  entry_read
  rfl

/-- The inverse scales, from the exponents. -/
theorem four_inv : (StableHlo.after lastOps σ
      (Proc.devRef .tc main_v56) : FVec Ideal S1x4096x1 .f32) = powRef (negi (σ (Proc.devRef .tc main_v37) : IVec S1x4096x1 32)) := by
  simp only [lastOps, hostOps0_6, hostOps0_7, hostOps0_8, hostOps0_9, hostOps0_10, hostOps0_11, hostOps0_12, hostOps0_13, List.flatten_cons, List.flatten_nil, List.append_nil, List.cons_append, List.nil_append]
  entry_read
  rfl
end

/-- The whole line is its pieces in turn. -/
theorem V_eq (c : Dev nD) (b : Ref sig .tc) : V m c b
    = StableHlo.after lastOps (S5 m c) (Proc.devRef .tc b) := by
  delta V
  simp only [List.flatten_cons, after_append]

/-- The two halves' product is `h`. -/
theorem S1_h (c : Dev nD) : mulf (S1 m c (Proc.devRef .tc main_v5) : FVec Ideal S1x4096x16384 .f32) (S1 m c (Proc.devRef .tc main_v4))
    = hRef (xOf m c) (wOf m c) := by
  delta S1
  rw [← after_append]
  simp only [hostOps0, hostOps0_1, List.cons_append, List.nil_append]
  entry_read
  rfl

/-- The exponents of the arguments. -/
theorem S5_exp (c : Dev nD) : (S5 m c (Proc.devRef .tc main_v37) : IVec S1x4096x1 32) = expRef (amaxRef (xOf m c) (wOf m c)) := by
  refine (three_exp _).trans ?_
  delta S2
  rw [two_amax, two_guard, two_zero, two_sub, S1_h]

/-- The scales. -/
theorem V_scale (c : Dev nD) : (V m c main_v46 : FVec Ideal S1x4096x1 .f32) = powRef (expRef (amaxRef (xOf m c) (wOf m c))) := by
  rw [V_eq]
  refine (four_scale _).trans ?_
  rw [S5_exp]

/-- The inverse scales. -/
theorem V_inv (c : Dev nD) : (V m c main_v56 : FVec Ideal S1x4096x1 .f32) = powRef (negi (expRef (amaxRef (xOf m c) (wOf m c)))) := by
  rw [V_eq]
  refine (four_inv _).trans ?_
  rw [S5_exp]

/-! ## The one point of the codes' call -/

theorem hz : (![0, 0, 0] : Fin 3 → Nat) = fun _ => 0 := funext fun a => by fin_cases a <;> rfl

/-- The one point's block of each window is the whole array: block index zero on every axis. -/
theorem idx0 : ∀ (t : Fin cfg0.N) (a : Fin 3), win0_0.index t a = 0 ∧ win0_1.index t a = 0 ∧ win0_2.index t a = 0 :=
  (by decide +kernel : ∀ (t : Fin grid0.N) (a : Fin 3), win0_0.index t a = 0 ∧ win0_1.index t a = 0 ∧ win0_2.index t a = 0)

/-- The first window's block at the one point is its array. -/
theorem read_0 (c : Dev nD) (g : (b : Ref sig .tc) → Buf (Elt Ideal) ((c : Thread nD τ).loc b)) (t : Fin cfg0.N) :
    (((cfg0.win 0).blk t).view.read (Elt Ideal) (g (Pipeline.arrRef spec0 0)) : Vec Ideal S1x4096x16384 .f32) = g main_v6 := by
  funext y
  rw [View.read_apply]
  show g main_v6 _ = g main_v6 _
  congr 1
  funext a
  apply Fin.ext
  match a with
  | ⟨0, _⟩ => show win0_0.index t 0 * 1 + 1 * (y 0).val = (y 0).val; rw [(idx0 t 0).1]; omega
  | ⟨1, _⟩ => show win0_0.index t 1 * 4096 + 1 * (y 1).val = (y 1).val; rw [(idx0 t 1).1]; omega
  | ⟨2, _⟩ => show win0_0.index t 2 * 16384 + 1 * (y 2).val = (y 2).val; rw [(idx0 t 2).1]; omega
/-- So is it of the array as the call finds it. -/
theorem iblk_0 (c : Dev nD) (t : Fin cfg0.N) : (iblk m c 0 t : Vec Ideal S1x4096x16384 .f32) = V m c main_v6 :=
  read_0 c (V m c) t

/-- The second window's block at the one point is its array. -/
theorem read_1 (c : Dev nD) (g : (b : Ref sig .tc) → Buf (Elt Ideal) ((c : Thread nD τ).loc b)) (t : Fin cfg0.N) :
    (((cfg0.win 1).blk t).view.read (Elt Ideal) (g (Pipeline.arrRef spec0 1)) : Vec Ideal S1x4096x1 .f32) = g main_v56 := by
  funext y
  rw [View.read_apply]
  show g main_v56 _ = g main_v56 _
  congr 1
  funext a
  apply Fin.ext
  match a with
  | ⟨0, _⟩ => show win0_1.index t 0 * 1 + 1 * (y 0).val = (y 0).val; rw [(idx0 t 0).2.1]; omega
  | ⟨1, _⟩ => show win0_1.index t 1 * 4096 + 1 * (y 1).val = (y 1).val; rw [(idx0 t 1).2.1]; omega
  | ⟨2, _⟩ => show win0_1.index t 2 * 1 + 1 * (y 2).val = (y 2).val; rw [(idx0 t 2).2.1]; omega
/-- So is it of the array as the call finds it. -/
theorem iblk_1 (c : Dev nD) (t : Fin cfg0.N) : (iblk m c 1 t : Vec Ideal S1x4096x1 .f32) = V m c main_v56 :=
  read_1 c (V m c) t

/-- What the body leaves in the codes' buffer. -/
theorem out_codes (x0 : Vec Ideal S1x4096x16384 .f32) (x1 : Vec Ideal S1x4096x1 .f32) : out0_2 x0 x1 = k0_pay1 x0 x1 := by
  unfold out0_2
  rw [View.canon_unit_zero hz, View.ld_unit_zero hz, View.ld_unit_zero hz]

/-- The code at a row and a column. -/
theorem pay1_apply (x0 : Vec Ideal S1x4096x16384 .f32) (x1 : Vec Ideal S1x4096x1 .f32) (r : Fin 4096) (f : Fin 16384) :
    k0_pay1 x0 x1 (ix3 0 r f) = code (x0 (ix3 0 r f)) (x1 (ix3 0 r 0)) := by
  unfold k0_pay1
  rw [shapeCast_self, shapeCast_self]
  unfold code
  show min _ (max _ (x0 (ix3 0 r f) * broadcastTo S1x4096x16384 _ _ (ix3 0 r f))) = _
  pointwise

attribute [local irreducible] Cert.ProjSpec.amaxAt Cert.ProjSpec.hAt

/-- The row maxima as contents of the first result. -/
abbrev amaxOf (c : Dev nD) : Buf (Elt Ideal) ((c : Thread nD τ).loc main_v9) :=
  fun i : S1x4096x1.Idx => amaxAt (xOf m c) (wOf m c) (i 1)
/-- The codes as contents of the second. -/
abbrev codesOf (c : Dev nD) : Buf (Elt Ideal) ((c : Thread nD τ).loc main_v57) :=
  fun i : S1x4096x16384.Idx => codeAt (xOf m c) (wOf m c) (i 1) (i 2)
/-- The scales as contents of the third. -/
abbrev scaleOf (c : Dev nD) : Buf (Elt Ideal) ((c : Thread nD τ).loc main_v46) :=
  fun i : S1x4096x1.Idx => scaleAt (xOf m c) (wOf m c) (i 1)

/-- An index of a column of rows is its row. -/
theorem ix_row (i : S1x4096x1.Idx) : ∃ r : Fin 4096, i = ix3 0 r 0 := by
  refine ⟨i 1, ?_⟩
  funext a
  apply Fin.ext
  match a with
  | ⟨0, _⟩ => have h : (i 0 : Nat) < 1 := (i 0).isLt
              show (i 0 : Nat) = 0; omega
  | ⟨1, _⟩ => rfl
  | ⟨2, _⟩ => have h : (i 2 : Nat) < 1 := (i 2).isLt
              show (i 2 : Nat) = 0; omega

/-- An index of the codes is its row and its column. -/
theorem ix_code (i : S1x4096x16384.Idx) : ∃ (r : Fin 4096) (f : Fin 16384), i = ix3 0 r f := by
  refine ⟨i 1, i 2, ?_⟩
  funext a
  apply Fin.ext
  match a with
  | ⟨0, _⟩ => have h : (i 0 : Nat) < 1 := (i 0).isLt
              show (i 0 : Nat) = 0; omega
  | ⟨1, _⟩ => rfl
  | ⟨2, _⟩ => rfl

/-- The row maxima, entry by entry. -/
theorem V_amaxOf (c : Dev nD) : V m c main_v9 = amaxOf m c := by
  refine (V_amax m c).trans ?_
  funext i
  obtain ⟨r, rfl⟩ := ix_row i
  exact amaxRef_apply _ _ _

/-- The scales, entry by entry. -/
theorem V_scaleOf (c : Dev nD) : V m c main_v46 = scaleOf m c := by
  refine (V_scale m c).trans ?_
  funext i
  obtain ⟨r, rfl⟩ := ix_row i
  rw [powRef_apply, expRef_apply, amaxRef_apply]
  rfl

/-- The codes the one point leaves, entry by entry. -/
theorem codes_eq (c : Dev nD) : k0_pay1 (V m c main_v6) (V m c main_v56) = codesOf m c := by
  rw [V_h m c, V_inv m c]
  funext i
  obtain ⟨r, f, rfl⟩ := ix_code i
  rw [pay1_apply, hRef_apply, powRef_apply]
  show code _ (refPow (-(expRef _ _))) = _
  rw [expRef_apply, amaxRef_apply]
  rfl

/-- The codes after the call. -/
theorem final_codes (c : Dev nD) : (dats m 0 c).arrAt 2 cfg0.N = codesOf m c := by
  refine (dats m 0 c).arrAt_eq_of_cover 2 (codesOf m c) (fun t _ => ?_) fun i => ?_
  · show (cfg0.win 2).cut (grid0.coords t) ((dats m 0 c).after 2 t) = _
    rw [after0_2, out_codes, iblk_0, iblk_1, codes_eq]
    have hz' : (fun a => win0_2.index t a * main_v57.ty.shape.size a) = fun _ => 0 :=
      funext fun a => by fin_cases a <;> simp only [(idx0 t _).2.2, Nat.zero_mul]
    exact (Memref.read_access_unit_zero (Elt Ideal) main_v57 hz' (fun a => by rw [congrFun hz' a]; simp) (codesOf m c)).symm
  · have hN : cfg0.N = 1 := N_0
    have ht : 0 < cfg0.N := by omega
    refine ⟨⟨0, ht⟩, flush0_2 _, ?_⟩
    show i ∈ ((View.whole main_v57).slice (win0_2.rect ⟨0, ht⟩)).set
    rw [View.set_slice_whole, Rect.mem_set_unit]
    intro a
    have h0 : (i 0 : Nat) < 1 := (i 0).isLt
    have h1 : (i 1 : Nat) < 4096 := (i 1).isLt
    have h2 : (i 2 : Nat) < 16384 := (i 2).isLt
    match a with
    | ⟨0, _⟩ => show win0_2.index ⟨0, ht⟩ 0 * 1 ≤ (i 0 : Nat) ∧ (i 0 : Nat) < win0_2.index ⟨0, ht⟩ 0 * 1 + 1
                rw [(idx0 _ 0).2.2]; omega
    | ⟨1, _⟩ => show win0_2.index ⟨0, ht⟩ 1 * 4096 ≤ (i 1 : Nat) ∧ (i 1 : Nat) < win0_2.index ⟨0, ht⟩ 1 * 4096 + 4096
                rw [(idx0 _ 1).2.2]; omega
    | ⟨2, _⟩ => show win0_2.index ⟨0, ht⟩ 2 * 16384 ≤ (i 2 : Nat) ∧ (i 2 : Nat) < win0_2.index ⟨0, ht⟩ 2 * 16384 + 16384
                rw [(idx0 _ 2).2.2]; omega

/-- The reference's run, read: the row maxima, the codes and the scales of the arguments, which are unchanged. -/
theorem run_arrays : θ_run defs (onTc (τ := τ) (main (F := Ideal))) ⟨m, fun _ => 0, ρ⟩ fun r => ∀ c : Dev nD,
      r.2.mem ((c : Thread nD τ).loc main_v9) = amaxOf m c
      ∧ r.2.mem ((c : Thread nD τ).loc main_v57) = codesOf m c
      ∧ r.2.mem ((c : Thread nD τ).loc main_v46) = scaleOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v9 (Pipeline.mem_restRefs_of main_v9 (by decide) (by decide))).trans (V_amaxOf m c),
      ((h c).1 2).trans (final_codes m c),
      ((h c).2 main_v46 (Pipeline.mem_restRefs_of main_v46 (by decide) (by decide))).trans (V_scaleOf m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.RefWholeIdeal.Value

/-! ## The claim -/

namespace Cert.WholeClaim

attribute [local instance] Cert.WholeIdeal.Gen.facts Cert.RefWholeIdeal.Gen.facts

/-- Over the reals the whole program's row maxima, codes and scales are the reference's. -/
theorem algebraic : Cert.algebraic_WholeIdeal_RefWholeIdeal := by
  intro m g m' g' _ hm
  refine ⟨fun c => Cert.WholeIdeal.Quant.amax3Of m c, fun c => Cert.WholeIdeal.Quant.codes3Of m c, fun c => Cert.WholeIdeal.Quant.scale3Of m c,
    Cert.WholeIdeal.Quant.run_arrays m g, ?_⟩
  refine (θ_run Cert.RefWholeIdeal.defs _ _).mono (fun r h c => ?_) (Cert.RefWholeIdeal.Value.run_arrays m' g')
  obtain ⟨h1, h2, h3, h4, h5⟩ := h c
  obtain ⟨e1, e2⟩ := hm c
  refine ⟨h1.trans ?_, h2.trans ?_, h3.trans ?_, h4, h5⟩
  · exact congrArg₂ (fun (x : Cert.ProjSpec.X) (w : Cert.ProjSpec.W) => fun i : Cert.RefWholeIdeal.S1x4096x1.Idx => Cert.ProjSpec.amaxAt x w (i 1)) e1 e2
  · exact congrArg₂ (fun (x : Cert.ProjSpec.X) (w : Cert.ProjSpec.W) => fun i : Cert.RefWholeIdeal.S1x4096x16384.Idx => Cert.WholeSpec.codeAt x w (i 1) (i 2)) e1 e2
  · exact congrArg₂ (fun (x : Cert.ProjSpec.X) (w : Cert.ProjSpec.W) => fun i : Cert.RefWholeIdeal.S1x4096x1.Idx => Cert.WholeSpec.scaleAt x w (i 1)) e1 e2

end Cert.WholeClaim

end
-- ==== Proof.lean ====
module

public import proofs.«01_k».proof.Defs
public import proofs.«01_k».proof.Proof.Gen.Proj.Frame
public import proofs.«01_k».proof.Proof.ProjValue
public import proofs.«01_k».proof.Proof.QuantValue
public import proofs.«01_k».proof.Proof.WholeRun
public import proofs.«01_k».proof.Proof.RefWholeValue

@[expose] public section

noncomputable section

namespace Cert.Proof

open Idealize.ShloMosaic Idealize.SL.Sem

/-- The projecting call's reference runs, leaves its arguments unchanged and, having no semaphore, ends with every counter at zero. -/
theorem frame_ref : Cert.quiescent_RefProjIdeal (hRefProjIdeal := Cert.RefProjIdeal.Gen.facts) := fun m g _ =>
  (θ_run Cert.RefProjIdeal.defs _ _).mono
    (fun r h => ⟨fun c => (h c).2.2, funext fun s => (by have e : IsEmpty (SemLoc Cert.RefProjIdeal.sig) := ⟨by decide⟩; exact (e.false s.2).elim)⟩)
    (Cert.RefProjIdeal.Value.run_arrays m g)

/-- Everything claimed: each program and each reference runs and restores its arguments; the projecting call and the whole program are
    their own idealizations; over the reals the projecting call and the whole program compute their references' arrays; the quantising call
    computes its reference's arrays bit for bit. -/
theorem claim : Cert.Claim :=
  ⟨Cert.Proj.Gen.facts, Cert.ProjIdeal.Gen.facts, Cert.RefProjIdeal.Gen.facts, Cert.Quant.Gen.facts, Cert.RefQuant.Gen.facts,
    Cert.Whole.Gen.facts, Cert.WholeIdeal.Gen.facts, Cert.RefWholeIdeal.Gen.facts,
    fun m g _ => Cert.Proj.Gen.frame m g,
    fun m g _ => Cert.ProjIdeal.Gen.frame m g,
    frame_ref,
    fun m g _ => Cert.Quant.Gen.frame m g,
    fun m g _ => Cert.RefQuant.Gen.frame m g,
    fun m g _ => Cert.Whole.Run.frame m g,
    fun m g _ => Cert.WholeIdeal.Run.frame m g,
    fun m g _ => Cert.RefWholeIdeal.Gen.frame m g,
    trivial,
    Cert.ProjClaim.algebraic,
    Cert.QuantClaim.bitexact,
    trivial,
    Cert.WholeClaim.algebraic⟩

end Cert.Proof

end
